-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![384, 1536]⟩ ⟨2, ![1536, 1536]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S384x1536 : Shape := ⟨2, ![384, 1536]⟩
abbrev S1536x1536 : Shape := ⟨2, ![1536, 1536]⟩
abbrev S2x384x768 : Shape := ⟨3, ![2, 384, 768]⟩
abbrev S384x768 : Shape := ⟨2, ![384, 768]⟩
abbrev S6 : Shape := ⟨1, ![6]⟩
abbrev S_ : Shape := ⟨0, ![]⟩
abbrev S768x768 : Shape := ⟨2, ![768, 768]⟩
abbrev S1x384x768 : Shape := ⟨3, ![1, 384, 768]⟩
abbrev S1 : Shape := ⟨1, ![1]⟩

abbrev nBuf : Space → Nat
  | .hbm => 3
  | .vmem => 12
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S384x1536, .f32⟩
  | .local _ .vmem, ⟨0, _⟩ => ⟨S1536x768, .f32⟩
  | .local _ .vmem, ⟨1, _⟩ => ⟨S768x1536, .f32⟩
  | .local _ .vmem, ⟨2, _⟩ => ⟨S384x1536, .f32⟩
  | .local _ .vmem, ⟨3, _⟩ => ⟨S1536x1536, .f32⟩
  | .local _ .vmem, ⟨4, _⟩ => ⟨S2x384x768, .bf16⟩
  | .local _ .vmem, ⟨5, _⟩ => ⟨S2x384x768, .bf16⟩
  | .local _ .vmem, ⟨6, _⟩ => ⟨S2x384x768, .bf16⟩
  | .local _ .vmem, ⟨7, _⟩ => ⟨S2x384x768, .bf16⟩
  | .local _ .vmem, ⟨8, _⟩ => ⟨S384x768, .bf16⟩
  | .local _ .vmem, ⟨9, _⟩ => ⟨S384x768, .bf16⟩
  | .local _ .vmem, ⟨10, _⟩ => ⟨S384x768, .bf16⟩
  | .local _ .vmem, ⟨11, _⟩ => ⟨S384x768, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_8 : BitVec 32 := 1#32
  let v12 : BitVec 32 := Scalar.xori v4 c1_i32_8
  let c384_i32 : BitVec 32 := 384#32
  let v13 : BitVec 32 := Scalar.muli v12 c384_i32
  let v14 : Index := Scalar.indexCast v13
  let c0 : Index := 0#32
  ![v14.toNat, 0]
def k0_dev3 (d0 : Dev nD) : Nat :=
  let c0_i32_19 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_18 : BitVec 32 := 1#32
  let v24 : BitVec 32 := Scalar.muli v4 c1_i32_18
  let v25 : BitVec 32 := Scalar.addi c0_i32_19 v24
  v25.toNat
def k0_off2 (d0 : Dev nD) : Fin 2 → Nat :=
  let c3_i32_24 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v34 : BitVec 32 := Scalar.subi c3_i32_24 v3
  let c384_i32_25 : BitVec 32 := 384#32
  let v35 : BitVec 32 := Scalar.muli v34 c384_i32_25
  let v36 : Index := Scalar.indexCast v35
  let c0_26 : Index := 0#32
  ![v36.toNat, 0]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_36 : BitVec 32 := 1#32
  let v46 : BitVec 32 := Scalar.muli v3 c1_i32_36
  let v47 : BitVec 32 := Scalar.addi c0_i32_37 v46
  v47.toNat
def k0_off3 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c384_i32_42 : BitVec 32 := 384#32
  let v56 : BitVec 32 := Scalar.muli v4 c384_i32_42
  let v57 : Index := Scalar.indexCast v56
  let c0_43 : Index := 0#32
  ![v57.toNat, 0]
def k0_dev5 (d0 : Dev nD) : Nat :=
  let c0_i32_54 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_53 : BitVec 32 := 1#32
  let v67 : BitVec 32 := Scalar.muli v4 c1_i32_53
  let v68 : BitVec 32 := Scalar.addi c0_i32_54 v67
  v68.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c384_i32_59 : BitVec 32 := 384#32
  let v77 : BitVec 32 := Scalar.muli v3 c384_i32_59
  let v78 : Index := Scalar.indexCast v77
  let c0_60 : Index := 0#32
  ![v78.toNat, 0]
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_71 : BitVec 32 := 1#32
  let v88 : BitVec 32 := Scalar.muli v3 c1_i32_71
  let v89 : BitVec 32 := Scalar.addi c0_i32_72 v88
  v89.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.xori v2 c1_i32_6
  let c384_i32_82 : BitVec 32 := 384#32
  let v105 : BitVec 32 := Scalar.muli v10 c384_i32_82
  let v106 : Index := Scalar.indexCast v105
  let c0_83 : Index := 0#32
  ![v106.toNat, 0]
def k0_off6 (d0 : Dev nD) : Fin 2 → Nat :=
  let c3_i32_7 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.subi c3_i32_7 v2
  let c384_i32_89 : BitVec 32 := 384#32
  let v117 : BitVec 32 := Scalar.muli v11 c384_i32_89
  let v118 : Index := Scalar.indexCast v117
  let c768_90 : Index := 768#32
  ![v118.toNat, 768]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_91 : BitVec 32 := 384#32
  let v122 : BitVec 32 := Scalar.muli v2 c384_i32_91
  let v123 : Index := Scalar.indexCast v122
  let c0_92 : Index := 0#32
  ![v123.toNat, 0]
def k0_dev7 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_124 : BitVec 32 := 1#32
  let v157 : BitVec 32 := Scalar.muli v3 c1_i32_124
  let v158 : BitVec 32 := Scalar.addi c0_i32_125 v157
  v158.toNat
def k0_dev8 (d0 : Dev nD) : Nat :=
  let c0_i32_145 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_144 : BitVec 32 := 1#32
  let v182 : BitVec 32 := Scalar.muli v4 c1_i32_144
  let v183 : BitVec 32 := Scalar.addi c0_i32_145 v182
  v183.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x3072 : Shape := ⟨2, ![1536, 3072]⟩
abbrev S3072x1536 : Shape := ⟨2, ![3072, 1536]⟩
abbrev S1536x1536 : Shape := ⟨2, ![1536, 1536]⟩

abbrev nBuf : Space → Nat
  | .hbm => 3
  | .vmem => 0
  | .smem => 0
  | _ => 0

abbrev bufTy : (tb : Table) → Fin (tcTables nBuf tb) → BufTy
  | .hbm, ⟨0, _⟩ => ⟨S1536x3072, .f32⟩
  | .hbm, ⟨1, _⟩ => ⟨S3072x1536, .f32⟩
  | .hbm, ⟨2, _⟩ => ⟨S1536x1536, .f32⟩
  | _, _ => ⟨S1536x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Same.lean ====
/- The kernel as printed and the kernel as read at the ideal values are one program at any one kind of values. -/
module

public import proofs.«01_k».proof.Defs
public import proofs.«01_k».proof.Proof.Gen.Kernel
public import proofs.«01_k».proof.Proof.Gen.KernelIdeal

@[expose] public section

noncomputable section

namespace Cert.Exchange

open Idealize.ShloMosaic Idealize.SL.Sem

variable {F : FTy → Type} [FloatOps F]

/-- The two kernel functions are one program. -/
theorem same_body : Cert.Kernel.cc0_body (F := F) = Cert.KernelIdeal.cc0_body (F := F) := rfl

/-- The two tables run the same program for the kernel's label, on each kind of core. -/
theorem same_table : Cert.Kernel.defs₀ (F := F) = Cert.KernelIdeal.defs₀ (F := F) := by
  funext p l a
  match l, a with
  | ⟨0, _⟩, (t, s) => cases p <;> rfl

/-- The two whole tables, with the launch around the kernel, are one. -/
theorem same_defs : Cert.Kernel.defs (F := F) = Cert.KernelIdeal.defs (F := F) :=
  congrArg (Pipeline.defs (Cert.Kernel.pcfgs (F := F))) same_table

end Cert.Exchange

end
-- ==== Proof.Mesh.lean ====
/- The four devices, who exchanges with whom, the buffers and semaphores of the exchange, and what
   every transfer carries. Device `c` exchanges with two others: `par false c` (the device whose number
   differs in the last bit) and `par true c` (the mirrored device `3 - c`). There are six transfers per
   device, numbered as their semaphores are. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Exchange

open Idealize.ShloMosaic Idealize.ShloMosaic.TcCoe Idealize.SL.Sem Cert.KernelIdeal Cert.KernelIdeal.Gen
open Idealize.ShloMosaic.Rounds

variable {F : FTy → Type} [FloatOps F]

/-! ## The partners -/

/-- The two partners of a device: `false` flips the last bit of its number, `true` mirrors it. -/
def par (b : Bool) (c : Dev nD) : Dev nD :=
  if b then ⟨3 - c.val, by have h : c.val < 4 := c.isLt; show _ < 4; omega⟩
  else ⟨c.val + 1 - 2 * (c.val % 2), by have h : c.val < 4 := c.isLt; show _ < 4; omega⟩

/-- Each partnership is mutual. -/
theorem par_par (b : Bool) (c : Dev nD) : par b (par b c) = c := by revert b c; decide +kernel

/-- The two partnerships commute. -/
theorem par_comm (c : Dev nD) : par true (par false c) = par false (par true c) := by revert c; decide +kernel

/-- A partnership, as a rearrangement of the devices. -/
def parE (b : Bool) : Dev nD ≃ Dev nD := ⟨par b, par b, par_par b, par_par b⟩

theorem dev1_eq (c : Dev nD) : (⟨k0_dev1 c, k0_dev1_lt c⟩ : Dev nD) = par false c := by revert c; decide +kernel
theorem dev2_eq (c : Dev nD) : (⟨k0_dev2 c, k0_dev2_lt c⟩ : Dev nD) = par true c := by revert c; decide +kernel
theorem dev3_eq (c : Dev nD) : (⟨k0_dev3 c, k0_dev3_lt c⟩ : Dev nD) = par true c := by revert c; decide +kernel
theorem dev4_eq (c : Dev nD) : (⟨k0_dev4 c, k0_dev4_lt c⟩ : Dev nD) = par false c := by revert c; decide +kernel
theorem dev5_eq (c : Dev nD) : (⟨k0_dev5 c, k0_dev5_lt c⟩ : Dev nD) = par true c := by revert c; decide +kernel
theorem dev6_eq (c : Dev nD) : (⟨k0_dev6 c, k0_dev6_lt c⟩ : Dev nD) = par false c := by revert c; decide +kernel
theorem dev7_eq (c : Dev nD) : (⟨k0_dev7 c, k0_dev7_lt c⟩ : Dev nD) = par false c := by revert c; decide +kernel
theorem dev8_eq (c : Dev nD) : (⟨k0_dev8 c, k0_dev8_lt c⟩ : Dev nD) = par true c := by revert c; decide +kernel

/-- Row block 1 a device computes is the one of the device opposite it. -/
theorem off1_eq (c : Dev nD) : k0_off1 c = k0_off7 (par false (par true c)) := by revert c; decide +kernel
theorem off2_eq (c : Dev nD) : k0_off2 c = k0_off7 (par false (par true c)) := by revert c; decide +kernel
theorem off3_eq (c : Dev nD) : k0_off3 c = k0_off7 (par true c) := by revert c; decide +kernel
theorem off4_eq (c : Dev nD) : k0_off4 c = k0_off7 (par false c) := by revert c; decide +kernel

/-! ## The buffers and semaphores of transfer `k` -/

/-- One of the two slots of a two-slot buffer. -/
abbrev slot (M : Memref sig .tc .vmem S2x384x768 .bf16) : Fin 2 → Memref sig .tc .vmem S384x768 .bf16
  | 0 => (M.slice (Rect.unit (s := S2x384x768) ![0, 0, 0] S1x384x768.size inb_S2x384x768_S1x384x768_0_0_0) (fun _ => rfl)).squeeze
      S384x768 squeezes_S1x384x768_S384x768
  | 1 => (M.slice (Rect.unit (s := S2x384x768) ![1, 0, 0] S1x384x768.size inb_S2x384x768_S1x384x768_1_0_0) (fun _ => rfl)).squeeze
      S384x768 squeezes_S1x384x768_S384x768

/-- What transfer `k` reads, on the sending device. -/
abbrev srcM : Fin 6 → Memref sig .tc .vmem S384x768 .bf16
  | 0 => slot (Memref.whole cc0_scratch1) 0
  | 1 => slot (Memref.whole cc0_scratch1) 1
  | 2 => slot (Memref.whole cc0_scratch2) 0
  | 3 => slot (Memref.whole cc0_scratch2) 1
  | 4 => Memref.whole cc0_scratch5
  | 5 => Memref.whole cc0_scratch7

/-- Where transfer `k` lands, on the receiving device. -/
abbrev dstM : Fin 6 → Memref sig .tc .vmem S384x768 .bf16
  | 0 => slot (Memref.whole cc0_scratch3) 0
  | 1 => slot (Memref.whole cc0_scratch3) 1
  | 2 => slot (Memref.whole cc0_scratch4) 0
  | 3 => slot (Memref.whole cc0_scratch4) 1
  | 4 => Memref.whole cc0_scratch6
  | 5 => Memref.whole cc0_scratch8

/-- Which partner transfer `k` goes to, and comes from. -/
def side : Fin 6 → Bool
  | 0 => true | 1 => true | 2 => false | 3 => false | 4 => false | 5 => true

/-- The other end of transfer `k`. -/
abbrev peer (k : Fin 6) (c : Dev nD) : Dev nD := par (side k) c

theorem peer_peer (k : Fin 6) (c : Dev nD) : peer k (peer k c) = c := par_par _ _

/-- The barrier semaphore. -/
abbrev barS : SemLoc sig := .reg (SemArray.scalar (sig.barrier 0 rfl) : Sems sig S_).sem
/-- The semaphore transfer `k` signals when its source may be reused. -/
abbrev sndS (k : Fin 6) : SemLoc sig := .dma ⟨k.val + 3, by have := k.isLt; show _ < 15; omega⟩
/-- The semaphore transfer `k` signals on the receiving device when it has landed. -/
abbrev rcvS (k : Fin 6) : SemLoc sig := .dma ⟨k.val + 6 + 3, by have := k.isLt; show _ < 15; omega⟩

/-- What one transfer credits: every transfer moves a 384×768 block of 16-bit numbers. -/
def cr : ℕ := (dstM 4).view.dmaCredit

theorem src_credit (k : Fin 6) : (srcM k).view.dmaCredit = cr := by fin_cases k <;> rfl
theorem dst_credit (k : Fin 6) : (dstM k).view.dmaCredit = cr := by fin_cases k <;> rfl
theorem cr_pos : 0 < cr := View.dmaCredit_pos _ (by decide)

/-- The ghost state: the launch's, and one duty-and-round account per semaphore for the exchange, duties named by `Bool`. -/
abbrev UU : Type := UR sig nD τ × URounds (GSem nD τ sig) Bool

/-- No effect of the kernel needs a variant. -/
abbrev 𝒱₀ : Variants := Variants.none

/-! ## The contents

Everything below is written in the launch contents `m` of the memories. -/

variable (m : (ℓ : Loc nD τ sig) → ℓ.ty.Contents (Elt F))

/-- Device `c`'s columns of the left operand, as its kernel finds them. -/
def opA (c : Dev nD) : Vec F S1536x768 .f32 := (win0_0.blk (0 : Fin 1)).view.read (Elt F) (m ((c.tc : Thread nD τ).loc main_arg0))
/-- Device `c`'s rows of the right operand, as its kernel finds them. -/
def opB (c : Dev nD) : Vec F S768x1536 .f32 := (win0_1.blk (0 : Fin 1)).view.read (Elt F) (m ((c.tc : Thread nD τ).loc main_arg1))

/-- Row block `r` of a left operand. -/
abbrev rows (f : Vec F S1536x768 .f32) (r : Dev nD) : Vec F S384x768 .f32 :=
  fun x => f ((Rect.unit (s := S1536x768) (k0_off7 r) S384x768.size (k0_off7_inb r)).emb x)

/-- One half of the columns of a right operand: `false` the left half, `true` the right half. -/
abbrev cols (f : Vec F S768x1536 .f32) : Bool → Vec F S768x768 .f32
  | false => fun x => f ((Rect.unit (s := S768x1536) ![0, 0] S768x768.size inb_S768x1536_S768x768_0_0).emb x)
  | true => fun x => f ((Rect.unit (s := S768x1536) ![0, 768] S768x768.size inb_S768x1536_S768x768_0_768).emb x)

/-- Device `c`'s product for row block `r` and column half `h`. -/
def piece (c r : Dev nD) (h : Bool) : FVec F S384x768 .f32 := k0_pay7 (rows (opA m c) r) (cols (opB m c) h)

/-- A block rounded for the wire. -/
def down (x : FVec F S384x768 .f32) : FVec F S384x768 .bf16 := truncf .bf16 x bitsLt_bf16_f32
/-- A block from the wire, widened and added to another. -/
def plus (x : FVec F S384x768 .f32) (y : FVec F S384x768 .bf16) : FVec F S384x768 .f32 := addf x (extf .f32 y bitsLt_bf16_f32)

/-- What device `c` sends in transfer `k` of the first round: the products for the two row blocks that
are not held on its side. -/
def sent₁ (c : Dev nD) : Fin 4 → FVec F S384x768 .bf16
  | 0 => down (piece m c (par false (par true c)) false)
  | 1 => down (piece m c (par true c) false)
  | 2 => down (piece m c (par false (par true c)) true)
  | 3 => down (piece m c (par false c) true)

/-- What device `c` sends in transfer `k`. -/
def sent (c : Dev nD) : Fin 6 → FVec F S384x768 .bf16
  | 0 => sent₁ m c 0
  | 1 => sent₁ m c 1
  | 2 => sent₁ m c 2
  | 3 => sent₁ m c 3
  | 4 => down (plus (piece m c (par false c) false) (sent₁ m (par true c) 0))
  | 5 => down (plus (piece m c (par true c) true) (sent₁ m (par false c) 2))

/-- Each half of the columns of device `c`'s result. -/
def result (c : Dev nD) : Bool → FVec F S384x768 .f32
  | false => plus (plus (piece m c c false) (sent m (peer 1 c) 1)) (sent m (peer 4 c) 4)
  | true => plus (plus (piece m c c true) (sent m (peer 3 c) 3)) (sent m (peer 5 c) 5)

end Cert.Exchange

end
-- ==== Proof.Blocks.lean ====
/- Blocks of a buffer held apart. A load or a store through a rectangle of a buffer needs the rectangle's
   elements only, so each slot of a two-slot buffer, each half of the result and each staged block is
   held on its own, at what it reads. -/
module

public import proofs.«01_k».proof.Proof.Mesh
public import Idealize.ShloMosaic.Lib.Exec.Geometry
public import Idealize.ShloMosaic.Lib.ViewIndex
public import Idealize.ShloMosaic.Lib.Pipeline.Value

@[expose] public section

noncomputable section

namespace Cert.Exchange

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Hold
variable (c : Dev nD) {sp : Space} {s s' : Shape} {e : EltTy} (M : Memref sig .tc sp s e)

omit [FloatOps F] in
/-- Holding a memref is holding its squeezed form, at the same elements in the same order. -/
theorem owns_squeeze (h : s.Squeezes s') (X : s.Idx → Elt F e) :
    (owns (c.tc : Thread nD τ) M fullShare X : sProp 𝕄)
      ⊢ owns (c.tc : Thread nD τ) (M.squeeze s' h) fullShare (shapeCast s' X h.numel_eq) := by
  unfold owns
  iintro ⟨%f, %hf, H⟩
  iexists f
  isplitr
  · ipureintro; subst hf; rfl
  · rw [show (M.squeeze s' h).view.set = M.view.set from View.set_reshape _ _]; iexact H

omit [FloatOps F] in
/-- Holding the squeezed form of a memref is holding the memref. -/
theorem owns_unsqueeze (h : s.Squeezes s') (X : s'.Idx → Elt F e) :
    (owns (c.tc : Thread nD τ) (M.squeeze s' h) fullShare X : sProp 𝕄)
      ⊢ owns (c.tc : Thread nD τ) M fullShare (shapeCast s X h.numel_eq.symm) := by
  unfold owns
  iintro ⟨%f, %hf, H⟩
  rw [show (M.squeeze s' h).view.set = M.view.set from View.set_reshape _ _]
  iexists f
  isplitr
  · ipureintro; subst hf
    exact (shapeCast_shapeCast (M.view.read (Elt F) f) h.numel_eq h.numel_eq.symm).symm
  · iexact H

end Hold

section Access
variable (c : Dev nD) {cs : CoreSpace} {s s' : Shape} {e : EltTy} (M : Memref sig .tc cs s e)
  {α : Type}

/-- A load through a rectangle of a memref held whole continues at what it holds there. -/
theorem load_any (r : Rect s) (X : s.Idx → Elt F e) {hl : M.view.LoadsAt r.toLoadRect}
    {k : (r.shape.Idx → Elt F e) → Prog (TpuEff nD τ sig (Elt F) Λ₀ .tc) α} {Q : α → sProp 𝕄} :
    (owns (c.tc : Thread nD τ) M fullShare X : sProp 𝕄)
      ⊢ iprop((owns (c.tc : Thread nD τ) M fullShare X
            -∗ wp frame (wpE (defs₀ (F := F)) 𝒱₀ (c.tc : Thread nD τ) none) Set.univ (k fun x => X (r.emb x)) Q)
        -∗ wp frame (wpE (defs₀ (F := F)) 𝒱₀ (c.tc : Thread nD τ) none) Set.univ (.op (.load M r.toLoadRect hl) k) Q) := by
  unfold owns
  iintro ⟨%f, %hf, H⟩ Hk
  iapply (wp_load_rect 𝒱₀ (c.tc : Thread nD τ) none Set.univ (m := M) (r := r) (S := M.view.set) (View.set_slice_subset _ _)) $$ H
  iintro H
  rw [show (M.access r).read (Elt F) f = fun x => X (r.emb x) from by subst hf; rfl]
  iapply Hk
  iexists f
  isplitr
  · ipureintro; exact hf
  · iexact H

/-- A load through a rectangle held on its own continues at what is held. -/
theorem load_part (r : Rect s) (hr : ∀ a, r.stride a = 1) (X : r.shape.Idx → Elt F e) {hl : M.view.LoadsAt r.toLoadRect}
    {k : (r.shape.Idx → Elt F e) → Prog (TpuEff nD τ sig (Elt F) Λ₀ .tc) α} {Q : α → sProp 𝕄} :
    (owns (c.tc : Thread nD τ) (M.slice r hr) fullShare X : sProp 𝕄)
      ⊢ iprop((owns (c.tc : Thread nD τ) (M.slice r hr) fullShare X
            -∗ wp frame (wpE (defs₀ (F := F)) 𝒱₀ (c.tc : Thread nD τ) none) Set.univ (k X) Q)
        -∗ wp frame (wpE (defs₀ (F := F)) 𝒱₀ (c.tc : Thread nD τ) none) Set.univ (.op (.load M r.toLoadRect hl) k) Q) := by
  unfold owns
  iintro ⟨%f, %hf, H⟩ Hk
  iapply (wp_load_rect 𝒱₀ (c.tc : Thread nD τ) none Set.univ (m := M) (r := r) (S := (M.access r).set) (Finset.Subset.refl _)) $$ H
  iintro H
  rw [show (M.access r).read (Elt F) f = X from hf]
  iapply Hk
  iexists f
  isplitr
  · ipureintro; exact hf
  · iexact H

/-- A store through a rectangle held on its own leaves it at what was stored. -/
theorem store_part (r : Rect s) (hr : ∀ a, r.stride a = 1) (X w : r.shape.Idx → Elt F e) {hx : (M.access r).Stores Finset.univ}
    {hm : Finset.univ = (Finset.univ : Finset r.shape.Idx) ∨ ∀ a, r.stride a = 1}
    {k : PUnit → Prog (TpuEff nD τ sig (Elt F) Λ₀ .tc) α} {Q : α → sProp 𝕄} :
    (owns (c.tc : Thread nD τ) (M.slice r hr) fullShare X : sProp 𝕄)
      ⊢ iprop((owns (c.tc : Thread nD τ) (M.slice r hr) fullShare w
            -∗ wp frame (wpE (defs₀ (F := F)) 𝒱₀ (c.tc : Thread nD τ) none) Set.univ (k ⟨⟩) Q)
        -∗ wp frame (wpE (defs₀ (F := F)) 𝒱₀ (c.tc : Thread nD τ) none) Set.univ (.op (.store M r w Finset.univ hx hm) k) Q) := by
  unfold owns
  iintro ⟨%f, %hf, H⟩ Hk
  iapply (wp_store 𝒱₀ (c.tc : Thread nD τ) none Set.univ (m := M) (r := r) (Mk := Finset.univ) (S := (M.access r).set) (Finset.Subset.refl _)) $$ H
  iintro H
  iapply Hk
  iexists (M.access r).write (Elt F) f w Finset.univ
  isplitr
  · ipureintro; exact View.read_write_univ f w
  · iexact H

/-- A load through a rectangle whose squeezed form is held continues at what is held, with the unit axis back. -/
theorem load_slot (r : Rect s) (hr : ∀ a, r.stride a = 1) (h : r.shape.Squeezes s') (X : s'.Idx → Elt F e) {hl : M.view.LoadsAt r.toLoadRect}
    {k : (r.shape.Idx → Elt F e) → Prog (TpuEff nD τ sig (Elt F) Λ₀ .tc) α} {Q : α → sProp 𝕄} :
    (owns (c.tc : Thread nD τ) ((M.slice r hr).squeeze s' h) fullShare X : sProp 𝕄)
      ⊢ iprop((owns (c.tc : Thread nD τ) ((M.slice r hr).squeeze s' h) fullShare X
            -∗ wp frame (wpE (defs₀ (F := F)) 𝒱₀ (c.tc : Thread nD τ) none) Set.univ (k (shapeCast r.shape X h.numel_eq.symm)) Q)
        -∗ wp frame (wpE (defs₀ (F := F)) 𝒱₀ (c.tc : Thread nD τ) none) Set.univ (.op (.load M r.toLoadRect hl) k) Q) := by
  iintro H Hk
  ihave H := (owns_unsqueeze c (M.slice r hr) h X) $$ H
  iapply (load_part c M r hr _) $$ H
  iintro H
  iapply Hk
  ihave H := (owns_squeeze c (M.slice r hr) h _) $$ H
  rw [shapeCast_shapeCast X h.numel_eq.symm h.numel_eq]
  iexact H

/-- A store through a rectangle whose squeezed form is held leaves it at what was stored, without the unit axis. -/
theorem store_slot (r : Rect s) (hr : ∀ a, r.stride a = 1) (h : r.shape.Squeezes s') (X Y : s'.Idx → Elt F e) (w : r.shape.Idx → Elt F e)
    (hY : shapeCast s' w h.numel_eq = Y) {hx : (M.access r).Stores Finset.univ}
    {hm : Finset.univ = (Finset.univ : Finset r.shape.Idx) ∨ ∀ a, r.stride a = 1}
    {k : PUnit → Prog (TpuEff nD τ sig (Elt F) Λ₀ .tc) α} {Q : α → sProp 𝕄} :
    (owns (c.tc : Thread nD τ) ((M.slice r hr).squeeze s' h) fullShare X : sProp 𝕄)
      ⊢ iprop((owns (c.tc : Thread nD τ) ((M.slice r hr).squeeze s' h) fullShare Y
            -∗ wp frame (wpE (defs₀ (F := F)) 𝒱₀ (c.tc : Thread nD τ) none) Set.univ (k ⟨⟩) Q)
        -∗ wp frame (wpE (defs₀ (F := F)) 𝒱₀ (c.tc : Thread nD τ) none) Set.univ (.op (.store M r w Finset.univ hx hm) k) Q) := by
  subst hY
  iintro H Hk
  ihave H := (owns_unsqueeze c (M.slice r hr) h X) $$ H
  iapply (store_part c M r hr _ w) $$ H
  iintro H
  iapply Hk
  iapply (owns_squeeze c (M.slice r hr) h _) $$ H

end Access

section Origin
variable (c : Dev nD) (M : Memref sig .tc .vmem S384x768 .bf16)

/-- The rectangle from the origin on over a whole block. -/
abbrev full : Rect S384x768 := Rect.unit (s := S384x768) ![0, 0] S384x768.size inb_S384x768_S384x768_0_0

theorem full_emb (x : S384x768.Idx) : full.emb x = x := by
  funext a
  apply Fin.ext
  show (![0, 0] : Fin 2 → ℕ) a + 1 * (x a).val = (x a).val
  fin_cases a <;> simp

omit [FloatOps F] in
/-- A block is its rectangle from the origin on. -/
theorem owns_full (hr : ∀ a, full.stride a = 1) (X : S384x768.Idx → Elt F .bf16) :
    (owns (c.tc : Thread nD τ) (M.slice full hr) fullShare X : sProp 𝕄) = owns (c.tc : Thread nD τ) M fullShare X := by
  have hs : (M.slice full hr).view.set = M.view.set := by
    show (M.view.slice full).set = _
    ext i
    constructor
    · exact fun h => View.set_slice_subset _ _ h
    · intro h
      obtain ⟨x, -, rfl⟩ := Finset.mem_map.mp h
      exact Finset.mem_map.mpr ⟨x, Finset.mem_univ _, congrArg M.view.emb (full_emb x)⟩
  have hf : ∀ f : M.view.ty.Contents (Elt F), (M.slice full hr).view.read (Elt F) f = M.view.read (Elt F) f := fun f =>
    funext fun x => congrArg (M.view.read (Elt F) f) (full_emb x)
  unfold owns
  rw [hs]
  exact congrArg _ (funext fun f => by rw [show _ = _ from hf f])

end Origin

section Carve
variable (c : Dev nD) {sp : Space} {s : Shape} {e : EltTy} (M : Memref sig .tc sp s e) (r₁ r₂ : Rect s)

/-- What two rectangles leave of a memref. -/
def leftover : sProp 𝕄 :=
  iprop(∃ f, M.view.loc (c.tc : Thread nD τ) ↦[(M.view.set \ (M.access r₁).set) \ (M.access r₂).set]{fullShare} f)

variable (h₁ : ∀ a, r₁.stride a = 1) (h₂ : ∀ a, r₂.stride a = 1) (hd : Disjoint r₁.set r₂.set)
include hd

theorem apart : Disjoint (M.access r₁).set (M.access r₂).set := M.view.disjoint_slice hd

theorem second_subset : (M.access r₂).set ⊆ M.view.set \ (M.access r₁).set := fun _ hi =>
  Finset.mem_sdiff.mpr ⟨View.set_slice_subset _ _ hi, fun h => Finset.disjoint_left.mp (apart M r₁ r₂ hd) h hi⟩

omit [FloatOps F] in
/-- Two disjoint rectangles of a memref are held apart, each at what it holds, beside the rest. -/
theorem carve (X : s.Idx → Elt F e) :
    (owns (c.tc : Thread nD τ) M fullShare X : sProp 𝕄)
      ⊢ iprop(owns (c.tc : Thread nD τ) (M.slice r₁ h₁) fullShare (fun x => X (r₁.emb x))
          ∗ owns (c.tc : Thread nD τ) (M.slice r₂ h₂) fullShare (fun x => X (r₂.emb x))
          ∗ leftover c M r₁ r₂) := by
  unfold owns leftover
  iintro ⟨%f, %hf, H⟩
  icases (pointsTo_split_subset (View.set_slice_subset M.view r₁)).1 $$ H with ⟨H₁, H⟩
  icases (pointsTo_split_subset (second_subset M r₁ r₂ hd)).1 $$ H with ⟨H₂, H⟩
  isplitl [H₁]
  · iexists f
    isplitr
    · ipureintro; subst hf; rfl
    · iexact H₁
  isplitl [H₂]
  · iexists f
    isplitr
    · ipureintro; subst hf; rfl
    · iexact H₂
  iexists f
  iexact H

omit [FloatOps F] in
/-- Two disjoint rectangles and the rest of a memref make the memref, at contents that hold what the rectangles do. -/
theorem patch (X₁ : r₁.shape.Idx → Elt F e) (X₂ : r₂.shape.Idx → Elt F e) :
    iprop(owns (c.tc : Thread nD τ) (M.slice r₁ h₁) fullShare X₁
          ∗ owns (c.tc : Thread nD τ) (M.slice r₂ h₂) fullShare X₂
          ∗ leftover c M r₁ r₂)
      ⊢ (iprop(∃ X, ⌜(fun x => X (r₁.emb x)) = X₁ ∧ (fun x => X (r₂.emb x)) = X₂⌝ ∗ owns (c.tc : Thread nD τ) M fullShare X) : sProp 𝕄) := by
  unfold owns leftover
  iintro ⟨⟨%f₁, %e₁, H₁⟩, ⟨%f₂, %e₂, H₂⟩, %f, H⟩
  ihave H := (pointsTo_join_subset (ℓ := M.view.loc (c.tc : Thread nD τ)) (second_subset M r₁ r₂ hd)) $$ [H₂ H]
  · isplitl [H₂]
    · iexact H₂
    · iexact H
  ihave H := (pointsTo_join_subset (ℓ := M.view.loc (c.tc : Thread nD τ)) (View.set_slice_subset M.view r₁)) $$ [H₁ H]
  · isplitl [H₁]
    · iexact H₁
    · iexact H
  iexists M.view.read (Elt F) ((M.access r₁).set.piecewise f₁ ((M.access r₂).set.piecewise f₂ f))
  isplitr
  rotate_left
  · iexists _
    isplitr
    rotate_left
    · iexact H
    · ipureintro; rfl
  ipureintro
  constructor
  · rw [← e₁]
    show (M.access r₁).read (Elt F) _ = (M.access r₁).read (Elt F) _
    exact View.read_congr fun i hi => Finset.piecewise_eq_of_mem _ _ _ hi
  · rw [← e₂]
    show (M.access r₂).read (Elt F) _ = (M.access r₂).read (Elt F) _
    refine View.read_congr fun i hi => ?_
    rw [Finset.piecewise_eq_of_notMem _ _ _ fun h => Finset.disjoint_left.mp (apart M r₁ r₂ hd) h hi]
    exact Finset.piecewise_eq_of_mem _ _ _ hi

end Carve

section Slots
variable (c : Dev nD) (M : Memref sig .tc .vmem S2x384x768 .bf16)

/-- The rectangle of the first slot. -/
abbrev slot0 : Rect S2x384x768 := Rect.unit (s := S2x384x768) ![0, 0, 0] S1x384x768.size inb_S2x384x768_S1x384x768_0_0_0
/-- The rectangle of the second slot. -/
abbrev slot1 : Rect S2x384x768 := Rect.unit (s := S2x384x768) ![1, 0, 0] S1x384x768.size inb_S2x384x768_S1x384x768_1_0_0

theorem slots_disjoint : Disjoint slot0.set slot1.set :=
  LoadRect.disjoint_of_separated slot0.toLoadRect slot1.toLoadRect (0 : Fin 3) (.inl (.inr (by decide)))

omit [FloatOps F] in
/-- A two-slot buffer is its two slots and what they leave. -/
theorem slots_split :
    (iprop(∃ X, owns (c.tc : Thread nD τ) M fullShare X) : sProp 𝕄)
      ⊢ iprop((∃ X, owns (c.tc : Thread nD τ) (slot M 0) fullShare X) ∗ (∃ X, owns (c.tc : Thread nD τ) (slot M 1) fullShare X)
          ∗ leftover c M slot0 slot1) := by
  iintro ⟨%X, H⟩
  icases (carve c M slot0 slot1 (fun _ => rfl) (fun _ => rfl) slots_disjoint X) $$ H with ⟨H₀, H₁, H⟩
  isplitl [H₀]
  · iexists _; iapply (owns_squeeze c _ squeezes_S1x384x768_S384x768 _) $$ H₀
  isplitl [H₁]
  · iexists _; iapply (owns_squeeze c _ squeezes_S1x384x768_S384x768 _) $$ H₁
  iexact H

omit [FloatOps F] in
/-- Two slots and what they leave are the two-slot buffer. -/
theorem slots_join :
    iprop((∃ X, owns (c.tc : Thread nD τ) (slot M 0) fullShare X) ∗ (∃ X, owns (c.tc : Thread nD τ) (slot M 1) fullShare X)
          ∗ leftover c M slot0 slot1)
      ⊢ (iprop(∃ X, owns (c.tc : Thread nD τ) M fullShare X) : sProp 𝕄) := by
  iintro ⟨⟨%X₀, H₀⟩, ⟨%X₁, H₁⟩, H⟩
  ihave H₀ := (owns_unsqueeze c (M.slice slot0 (fun _ => rfl)) squeezes_S1x384x768_S384x768 _) $$ H₀
  ihave H₁ := (owns_unsqueeze c (M.slice slot1 (fun _ => rfl)) squeezes_S1x384x768_S384x768 _) $$ H₁
  ihave H := (patch c M slot0 slot1 (fun _ => rfl) (fun _ => rfl) slots_disjoint _ _) $$ [H₀ H₁ H]
  · isplitl [H₀]; · iexact H₀
    isplitl [H₁] <;> iassumption
  icases H with ⟨%X, -, H⟩
  iexists X
  iexact H

end Slots

end Cert.Exchange

end
-- ==== Proof.Tiles.lean ====
/- The rectangles the body works on and the values it stores in them, in the words of the exchange: a row block
   and a column half of the operands, the accumulator's two blocks, the two halves of the result. -/
module

public import proofs.«01_k».proof.Proof.Blocks
public import Idealize.ShloMosaic.Lib.ValueLayout

@[expose] public section

noncomputable section

namespace Cert.Exchange

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## The stored values -/

section Values
variable (a : Vec F S384x768 .f32) (b : Vec F S768x768 .f32) (x : Vec F S384x768 .f32) (y : Vec F S384x768 .bf16)

/-- A product rounded for the wire, as it is stored with a unit axis in front. -/
theorem pay1_eq : shapeCast S384x768 (k0_pay1 a b) squeezes_S1x384x768_S384x768.numel_eq = down (k0_pay7 a b) := by
  unfold k0_pay1
  rw [shapeCast_shapeCast]
  rfl
theorem pay2_eq : shapeCast S384x768 (k0_pay2 a b) squeezes_S1x384x768_S384x768.numel_eq = down (k0_pay7 a b) := by
  unfold k0_pay2
  rw [shapeCast_shapeCast]
  rfl
theorem pay3_eq : shapeCast S384x768 (k0_pay3 a b) squeezes_S1x384x768_S384x768.numel_eq = down (k0_pay7 a b) := by
  unfold k0_pay3
  rw [shapeCast_shapeCast]
  rfl
theorem pay4_eq : shapeCast S384x768 (k0_pay4 a b) squeezes_S1x384x768_S384x768.numel_eq = down (k0_pay7 a b) := by
  unfold k0_pay4
  rw [shapeCast_shapeCast]
  rfl
/-- The products kept in the accumulator and in the result are the same product. -/
theorem pay5_eq : k0_pay5 a b = k0_pay7 a b := shapeCast_self (k0_pay7 a b) shapeCasts_S384x768_S384x768
theorem pay6_eq : k0_pay6 a b = k0_pay7 a b := shapeCast_self (k0_pay7 a b) shapeCasts_S384x768_S384x768
theorem pay8_eq : k0_pay8 a b = k0_pay7 a b := rfl

/-- What is sent in the second round: the accumulator's block plus what landed, rounded again. -/
theorem pay10_eq : k0_pay10 x (k0_pay9 (shapeCast S1x384x768 y squeezes_S1x384x768_S384x768.numel_eq.symm)) = down (plus x y) := by
  unfold k0_pay10 k0_pay9
  simp only [shapeCast_shapeCast, shapeCast_self]
  rfl
theorem pay11_eq : k0_pay11 x (shapeCast S1x384x768 y squeezes_S1x384x768_S384x768.numel_eq.symm) = down (plus x y) := by
  unfold k0_pay11
  simp only [shapeCast_shapeCast, shapeCast_self]
  rfl
/-- What landed is added to the result. -/
theorem pay12_eq : k0_pay12 x (shapeCast S1x384x768 y squeezes_S1x384x768_S384x768.numel_eq.symm) = plus x y := by
  unfold k0_pay12
  simp only [shapeCast_shapeCast, shapeCast_self]
  rfl
theorem pay13_eq : k0_pay13 x (shapeCast S1x384x768 y squeezes_S1x384x768_S384x768.numel_eq.symm) = plus x y := by
  unfold k0_pay13
  simp only [shapeCast_shapeCast, shapeCast_self]
  rfl
theorem pay14_eq : k0_pay14 x y = plus x y := by
  unfold k0_pay14
  rw [shapeCast_self]
  rfl
theorem pay15_eq : k0_pay15 x y = plus x y := by
  unfold k0_pay15
  rw [shapeCast_self]
  rfl

end Values

/-! ## Loads of the operands -/

section Loads
variable {α : Type} (c : Dev nD)

/-- A load of a row block of the left operand. -/
theorem load_rows (M : Memref sig .tc .vmem S1536x768 .f32) (r : Dev nD) (off : Fin 2 → ℕ) (h : off = k0_off7 r)
    {inb : ∀ a, off a + S384x768.size a ≤ S1536x768.size a} (f : Vec F S1536x768 .f32)
    {hl : M.view.LoadsAt (Rect.unit (s := S1536x768) off S384x768.size inb).toLoadRect}
    {k : Vec F S384x768 .f32 → Prog (TpuEff nD τ sig (Elt F) Λ₀ .tc) α} {Q : α → sProp 𝕄} :
    (owns (c.tc : Thread nD τ) M fullShare f : sProp 𝕄)
      ⊢ iprop((owns (c.tc : Thread nD τ) M fullShare f
            -∗ wp frame (wpE (defs₀ (F := F)) 𝒱₀ (c.tc : Thread nD τ) none) Set.univ (k (rows f r)) Q)
        -∗ wp frame (wpE (defs₀ (F := F)) 𝒱₀ (c.tc : Thread nD τ) none) Set.univ
            (.op (.load M (Rect.unit (s := S1536x768) off S384x768.size inb).toLoadRect hl) k) Q) := by
  subst h
  exact load_any c M (Rect.unit (s := S1536x768) (k0_off7 r) S384x768.size inb) f (k := k)

/-- Where each half of the columns begins. -/
def colOff : Bool → Fin 2 → ℕ
  | false => ![0, 0]
  | true => ![0, 768]

/-- A load of half the columns of the right operand. -/
theorem load_cols (M : Memref sig .tc .vmem S768x1536 .f32) (b : Bool) (off : Fin 2 → ℕ) (h : off = colOff b)
    {inb : ∀ a, off a + S768x768.size a ≤ S768x1536.size a} (f : Vec F S768x1536 .f32)
    {hl : M.view.LoadsAt (Rect.unit (s := S768x1536) off S768x768.size inb).toLoadRect}
    {k : Vec F S768x768 .f32 → Prog (TpuEff nD τ sig (Elt F) Λ₀ .tc) α} {Q : α → sProp 𝕄} :
    (owns (c.tc : Thread nD τ) M fullShare f : sProp 𝕄)
      ⊢ iprop((owns (c.tc : Thread nD τ) M fullShare f
            -∗ wp frame (wpE (defs₀ (F := F)) 𝒱₀ (c.tc : Thread nD τ) none) Set.univ (k (cols f b)) Q)
        -∗ wp frame (wpE (defs₀ (F := F)) 𝒱₀ (c.tc : Thread nD τ) none) Set.univ
            (.op (.load M (Rect.unit (s := S768x1536) off S768x768.size inb).toLoadRect hl) k) Q) := by
  subst h
  cases b
  · exact load_any c M (Rect.unit (s := S768x1536) ![0, 0] S768x768.size inb) f (k := k)
  · exact load_any c M (Rect.unit (s := S768x1536) ![0, 768] S768x768.size inb) f (k := k)

variable (M : Memref sig .tc .vmem S384x768 .bf16)

/-- A load of a whole block continues at what is held. -/
theorem load_full (X : S384x768.Idx → Elt F .bf16) {hl : M.view.LoadsAt full.toLoadRect}
    {k : (S384x768.Idx → Elt F .bf16) → Prog (TpuEff nD τ sig (Elt F) Λ₀ .tc) α} {Q : α → sProp 𝕄} :
    (owns (c.tc : Thread nD τ) M fullShare X : sProp 𝕄)
      ⊢ iprop((owns (c.tc : Thread nD τ) M fullShare X
            -∗ wp frame (wpE (defs₀ (F := F)) 𝒱₀ (c.tc : Thread nD τ) none) Set.univ (k X) Q)
        -∗ wp frame (wpE (defs₀ (F := F)) 𝒱₀ (c.tc : Thread nD τ) none) Set.univ (.op (.load M full.toLoadRect hl) k) Q) := by
  rw [← owns_full c M (fun _ => rfl) X]
  exact load_part c M full (fun _ => rfl) X

/-- A store over a whole block leaves it at what was stored. -/
theorem store_full (X w : S384x768.Idx → Elt F .bf16) {hx : (M.access full).Stores Finset.univ}
    {hm : Finset.univ = (Finset.univ : Finset full.shape.Idx) ∨ ∀ a, full.stride a = 1}
    {k : PUnit → Prog (TpuEff nD τ sig (Elt F) Λ₀ .tc) α} {Q : α → sProp 𝕄} :
    (owns (c.tc : Thread nD τ) M fullShare X : sProp 𝕄)
      ⊢ iprop((owns (c.tc : Thread nD τ) M fullShare w
            -∗ wp frame (wpE (defs₀ (F := F)) 𝒱₀ (c.tc : Thread nD τ) none) Set.univ (k ⟨⟩) Q)
        -∗ wp frame (wpE (defs₀ (F := F)) 𝒱₀ (c.tc : Thread nD τ) none) Set.univ (.op (.store M full w Finset.univ hx hm) k) Q) := by
  rw [← owns_full c M (fun _ => rfl) X, ← owns_full c M (fun _ => rfl) w]
  exact store_part c M full (fun _ => rfl) X w

end Loads

/-! ## The accumulator's two blocks -/

/-- The accumulator's block for the left half of the columns. -/
abbrev accL (c : Dev nD) : Rect S1536x1536 := Rect.unit (s := S1536x1536) (k0_off5 c) S384x768.size (k0_off5_inb c)
/-- The accumulator's block for the right half of the columns. -/
abbrev accR (c : Dev nD) : Rect S1536x1536 := Rect.unit (s := S1536x1536) (k0_off6 c) S384x768.size (k0_off6_inb c)

theorem accL_col : ∀ c : Dev nD, k0_off5 c 1 = 0 := by decide +kernel
theorem accR_col : ∀ c : Dev nD, k0_off6 c 1 = 768 := by decide +kernel

theorem acc_disjoint (c : Dev nD) : Disjoint (accL c).set (accR c).set :=
  LoadRect.disjoint_of_separated (accL c).toLoadRect (accR c).toLoadRect (1 : Fin 2) (.inl (.inr (by
    show k0_off5 c 1 + 1 * (768 - 1) < k0_off6 c 1
    rw [accL_col, accR_col]; decide)))

/-! ## The result's two halves -/

/-- The left half of the result. -/
abbrev outL : Rect S384x1536 := Rect.unit (s := S384x1536) ![0, 0] S384x768.size inb_S384x1536_S384x768_0_0
/-- The right half of the result. -/
abbrev outR : Rect S384x1536 := Rect.unit (s := S384x1536) ![0, 768] S384x768.size inb_S384x1536_S384x768_0_768

theorem out_disjoint : Disjoint outL.set outR.set :=
  LoadRect.disjoint_of_separated outL.toLoadRect outR.toLoadRect (1 : Fin 2) (.inl (.inr (by decide)))

/-- Two halves side by side. -/
def beside {α : Type} (X : Bool → S384x768.Idx → α) : S384x1536.Idx → α := fun i =>
  if h : (i 1).val < 768 then X false (ix2 (i 0) ⟨(i 1).val, h⟩)
  else X true (ix2 (i 0) ⟨(i 1).val - 768, by have : (i 1).val < 1536 := (i 1).isLt; omega⟩)

/-- Contents are determined by their halves. -/
theorem eq_beside {α : Type} (X : S384x1536.Idx → α) (Y : Bool → S384x768.Idx → α)
    (hL : (fun x => X (outL.emb x)) = Y false) (hR : (fun x => X (outR.emb x)) = Y true) : X = beside Y := by
  funext i
  unfold beside
  split
  · rename_i h
    rw [← hL]
    refine congrArg X (funext fun a => Fin.ext ?_)
    match a with
    | ⟨0, _⟩ => show (i 0).val = 0 + 1 * (i 0).val; omega
    | ⟨1, _⟩ => show (i 1).val = 0 + 1 * (i 1).val; omega
  · rename_i h
    rw [← hR]
    refine congrArg X (funext fun a => Fin.ext ?_)
    match a with
    | ⟨0, _⟩ => show (i 0).val = 0 + 1 * (i 0).val; omega
    | ⟨1, _⟩ => show (i 1).val = 768 + 1 * ((i 1).val - 768); omega

/-- What device `c`'s kernel leaves in its result. -/
def outAt (m : (ℓ : Loc nD τ sig) → ℓ.ty.Contents (Elt F)) (c : Dev nD) : Vec F S384x1536 .f32 := beside (result m c)

end Cert.Exchange

end
-- ==== Proof.Moves.lean ====
/- The computing stretches of the body, each stated once: a product staged for the wire, a product kept in a
   block, and a landed block added to a half of the result. -/
module

public import proofs.«01_k».proof.Proof.Tiles

@[expose] public section

noncomputable section

namespace Cert.Exchange

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {α : Type} (m : (ℓ : Loc nD τ sig) → ℓ.ty.Contents (Elt F)) (c : Dev nD)

section Products
variable (A : Memref sig .tc .vmem S1536x768 .f32) (B : Memref sig .tc .vmem S768x1536 .f32)
  (r : Dev nD) (offA : Fin 2 → ℕ) (hA : offA = k0_off7 r) {inbA : ∀ a, offA a + S384x768.size a ≤ S1536x768.size a}
  (h : Bool) (offB : Fin 2 → ℕ) (hB : offB = colOff h) {inbB : ∀ a, offB a + S768x768.size a ≤ S768x1536.size a}
  {lA : A.view.LoadsAt (Rect.unit (s := S1536x768) offA S384x768.size inbA).toLoadRect}
  {lB : B.view.LoadsAt (Rect.unit (s := S768x1536) offB S768x768.size inbB).toLoadRect}

include hA hB in
/-- Device `c`'s product for row block `r` and column half `h` is rounded and staged in a slot. -/
theorem stage_step (M : Memref sig .tc .vmem S2x384x768 .bf16) (R : Rect S2x384x768) (hR : ∀ a, R.stride a = 1)
    (hs : R.shape.Squeezes S384x768) (v : Vec F S384x768 .f32 → Vec F S768x768 .f32 → (R.shape.Idx → Elt F .bf16))
    (hv : ∀ a b, shapeCast S384x768 (v a b) hs.numel_eq = down (k0_pay7 a b))
    {lM : M.view.LoadsAt R.toLoadRect} {hx : (M.access R).Stores Finset.univ}
    {hm : Finset.univ = (Finset.univ : Finset R.shape.Idx) ∨ ∀ a, R.stride a = 1}
    {k : PUnit → Prog (TpuEff nD τ sig (Elt F) Λ₀ .tc) α} {Q : α → sProp 𝕄} :
    iprop(owns (c.tc : Thread nD τ) A fullShare (opA m c) ∗ owns (c.tc : Thread nD τ) B fullShare (opB m c)
        ∗ ∃ X, owns (c.tc : Thread nD τ) ((M.slice R hR).squeeze S384x768 hs) fullShare X)
      ⊢ iprop((iprop(owns (c.tc : Thread nD τ) A fullShare (opA m c) ∗ owns (c.tc : Thread nD τ) B fullShare (opB m c)
            ∗ owns (c.tc : Thread nD τ) ((M.slice R hR).squeeze S384x768 hs) fullShare (down (piece m c r h)))
            -∗ wp frame (wpE (defs₀ (F := F)) 𝒱₀ (c.tc : Thread nD τ) none) Set.univ (k ⟨⟩) Q)
        -∗ wp frame (wpE (defs₀ (F := F)) 𝒱₀ (c.tc : Thread nD τ) none) Set.univ
            (.op (.load A (Rect.unit (s := S1536x768) offA S384x768.size inbA).toLoadRect lA) fun a =>
              .op (.load B (Rect.unit (s := S768x1536) offB S768x768.size inbB).toLoadRect lB) fun b =>
                .op (.load M R.toLoadRect lM) fun _ => .op (.store M R (v a b) Finset.univ hx hm) k) Q) := by
  iintro ⟨HA, HB, %X, HM⟩ Hk
  iapply (load_rows c A r offA hA (opA m c)) $$ HA
  iintro HA
  iapply (load_cols c B h offB hB (opB m c)) $$ HB
  iintro HB
  iapply (load_slot c M R hR hs X) $$ HM
  iintro HM
  iapply (store_slot c M R hR hs X (down (piece m c r h)) _ (hv _ _)) $$ HM
  iintro HM
  iapply Hk
  isplitl [HA]; · iexact HA
  isplitl [HB] <;> iassumption

variable {d : Fin 2 → ℕ} (M : Memref sig .tc .vmem ⟨2, d⟩ .f32) (off : Fin 2 → ℕ) (inb : ∀ a, off a + S384x768.size a ≤ d a)
  {lM lM' : M.view.LoadsAt (Rect.unit (s := ⟨2, d⟩) off S384x768.size inb).toLoadRect}
  {hx : (M.access (Rect.unit (s := ⟨2, d⟩) off S384x768.size inb)).Stores Finset.univ}
  {hm : Finset.univ = (Finset.univ : Finset S384x768.Idx) ∨ ∀ a, (Rect.unit (s := ⟨2, d⟩) off S384x768.size inb).stride a = 1}
  {k : PUnit → Prog (TpuEff nD τ sig (Elt F) Λ₀ .tc) α}

include hA hB in
/-- Device `c`'s product for row block `r` and column half `h` is kept in a block. -/
theorem keep_step (v : Vec F S384x768 .f32 → Vec F S768x768 .f32 → (S384x768.Idx → Elt F .f32)) (hv : ∀ a b, v a b = k0_pay7 a b)
    {Q : α → sProp 𝕄} :
    iprop(owns (c.tc : Thread nD τ) A fullShare (opA m c) ∗ owns (c.tc : Thread nD τ) B fullShare (opB m c)
        ∗ ∃ X, owns (c.tc : Thread nD τ) (M.slice (Rect.unit (s := ⟨2, d⟩) off S384x768.size inb) (fun _ => rfl)) fullShare X)
      ⊢ iprop((iprop(owns (c.tc : Thread nD τ) A fullShare (opA m c) ∗ owns (c.tc : Thread nD τ) B fullShare (opB m c)
            ∗ owns (c.tc : Thread nD τ) (M.slice (Rect.unit (s := ⟨2, d⟩) off S384x768.size inb) (fun _ => rfl)) fullShare (piece m c r h))
            -∗ wp frame (wpE (defs₀ (F := F)) 𝒱₀ (c.tc : Thread nD τ) none) Set.univ (k ⟨⟩) Q)
        -∗ wp frame (wpE (defs₀ (F := F)) 𝒱₀ (c.tc : Thread nD τ) none) Set.univ
            (.op (.load A (Rect.unit (s := S1536x768) offA S384x768.size inbA).toLoadRect lA) fun a =>
              .op (.load B (Rect.unit (s := S768x1536) offB S768x768.size inbB).toLoadRect lB) fun b =>
                .op (.load M (Rect.unit (s := ⟨2, d⟩) off S384x768.size inb).toLoadRect lM) fun _ =>
                  .op (.store M (Rect.unit (s := ⟨2, d⟩) off S384x768.size inb) (v a b) Finset.univ hx hm) k) Q) := by
  iintro ⟨HA, HB, %X, HM⟩ Hk
  iapply (load_rows c A r offA hA (opA m c)) $$ HA
  iintro HA
  iapply (load_cols c B h offB hB (opB m c)) $$ HB
  iintro HB
  iapply (load_part c M _ (fun _ => rfl) X) $$ HM
  iintro HM
  iapply (store_part c M _ (fun _ => rfl) X _) $$ HM
  iintro HM
  iapply Hk
  isplitl [HA]; · iexact HA
  isplitl [HB]; · iexact HB
  rw [show piece m c r h = v (rows (opA m c) r) (cols (opB m c) h) from (hv _ _).symm]
  iexact HM

/-- A landed slot is added to a block. -/
theorem add_slot_step (N : Memref sig .tc .vmem S2x384x768 .bf16) (R : Rect S2x384x768) (hR : ∀ a, R.stride a = 1)
    (hs : R.shape.Squeezes S384x768) {lN : N.view.LoadsAt R.toLoadRect}
    (v : Vec F S384x768 .f32 → (R.shape.Idx → Elt F .bf16) → (S384x768.Idx → Elt F .f32))
    (hv : ∀ a (b : S384x768.Idx → Elt F .bf16), v a (shapeCast R.shape b hs.numel_eq.symm) = plus a b)
    (X : FVec F S384x768 .f32) (Y : FVec F S384x768 .bf16) {Q : α → sProp 𝕄} :
    iprop(owns (c.tc : Thread nD τ) (M.slice (Rect.unit (s := ⟨2, d⟩) off S384x768.size inb) (fun _ => rfl)) fullShare X
        ∗ owns (c.tc : Thread nD τ) ((N.slice R hR).squeeze S384x768 hs) fullShare Y)
      ⊢ iprop((iprop(owns (c.tc : Thread nD τ) (M.slice (Rect.unit (s := ⟨2, d⟩) off S384x768.size inb) (fun _ => rfl)) fullShare (plus X Y)
            ∗ owns (c.tc : Thread nD τ) ((N.slice R hR).squeeze S384x768 hs) fullShare Y)
            -∗ wp frame (wpE (defs₀ (F := F)) 𝒱₀ (c.tc : Thread nD τ) none) Set.univ (k ⟨⟩) Q)
        -∗ wp frame (wpE (defs₀ (F := F)) 𝒱₀ (c.tc : Thread nD τ) none) Set.univ
            (.op (.load M (Rect.unit (s := ⟨2, d⟩) off S384x768.size inb).toLoadRect lM) fun a =>
              .op (.load N R.toLoadRect lN) fun b =>
                .op (.load M (Rect.unit (s := ⟨2, d⟩) off S384x768.size inb).toLoadRect lM') fun _ =>
                  .op (.store M (Rect.unit (s := ⟨2, d⟩) off S384x768.size inb) (v a b) Finset.univ hx hm) k) Q) := by
  iintro ⟨HM, HN⟩ Hk
  iapply (load_part c M _ (fun _ => rfl) X) $$ HM
  iintro HM
  iapply (load_slot c N R hR hs Y) $$ HN
  iintro HN
  iapply (load_part c M _ (fun _ => rfl) X) $$ HM
  iintro HM
  iapply (store_part c M _ (fun _ => rfl) X _) $$ HM
  iintro HM
  iapply Hk
  rw [← hv X Y]
  isplitl [HM] <;> iassumption

/-- A landed block is added to a block. -/
theorem add_full_step (N : Memref sig .tc .vmem S384x768 .bf16) {lN : N.view.LoadsAt full.toLoadRect}
    (v : Vec F S384x768 .f32 → (S384x768.Idx → Elt F .bf16) → (S384x768.Idx → Elt F .f32))
    (hv : ∀ a (b : S384x768.Idx → Elt F .bf16), v a b = plus a b)
    (X : FVec F S384x768 .f32) (Y : FVec F S384x768 .bf16) {Q : α → sProp 𝕄} :
    iprop(owns (c.tc : Thread nD τ) (M.slice (Rect.unit (s := ⟨2, d⟩) off S384x768.size inb) (fun _ => rfl)) fullShare X
        ∗ owns (c.tc : Thread nD τ) N fullShare Y)
      ⊢ iprop((iprop(owns (c.tc : Thread nD τ) (M.slice (Rect.unit (s := ⟨2, d⟩) off S384x768.size inb) (fun _ => rfl)) fullShare (plus X Y)
            ∗ owns (c.tc : Thread nD τ) N fullShare Y)
            -∗ wp frame (wpE (defs₀ (F := F)) 𝒱₀ (c.tc : Thread nD τ) none) Set.univ (k ⟨⟩) Q)
        -∗ wp frame (wpE (defs₀ (F := F)) 𝒱₀ (c.tc : Thread nD τ) none) Set.univ
            (.op (.load M (Rect.unit (s := ⟨2, d⟩) off S384x768.size inb).toLoadRect lM) fun a =>
              .op (.load N full.toLoadRect lN) fun b =>
                .op (.load M (Rect.unit (s := ⟨2, d⟩) off S384x768.size inb).toLoadRect lM') fun _ =>
                  .op (.store M (Rect.unit (s := ⟨2, d⟩) off S384x768.size inb) (v a b) Finset.univ hx hm) k) Q) := by
  iintro ⟨HM, HN⟩ Hk
  iapply (load_part c M _ (fun _ => rfl) X) $$ HM
  iintro HM
  iapply (load_full c N Y) $$ HN
  iintro HN
  iapply (load_part c M _ (fun _ => rfl) X) $$ HM
  iintro HM
  iapply (store_part c M _ (fun _ => rfl) X _) $$ HM
  iintro HM
  iapply Hk
  rw [← hv X Y]
  isplitl [HM] <;> iassumption

omit k in
/-- A block plus a landed slot is rounded and staged for the second round. -/
theorem forward_step (N : Memref sig .tc .vmem S2x384x768 .bf16) (R : Rect S2x384x768) (hR : ∀ a, R.stride a = 1)
    (hs : R.shape.Squeezes S384x768) (P : Memref sig .tc .vmem S384x768 .bf16) {lN : N.view.LoadsAt R.toLoadRect} {lP : P.view.LoadsAt full.toLoadRect}
    {hp : (P.access full).Stores Finset.univ} {hq : Finset.univ = (Finset.univ : Finset full.shape.Idx) ∨ ∀ a, full.stride a = 1}
    (v : Vec F S384x768 .f32 → (R.shape.Idx → Elt F .bf16) → (S384x768.Idx → Elt F .bf16))
    (hv : ∀ a (b : S384x768.Idx → Elt F .bf16), v a (shapeCast R.shape b hs.numel_eq.symm) = down (plus a b))
    (X : FVec F S384x768 .f32) (Y : FVec F S384x768 .bf16)
    {k : PUnit → Prog (TpuEff nD τ sig (Elt F) Λ₀ .tc) α} {Q : α → sProp 𝕄} :
    iprop(owns (c.tc : Thread nD τ) (M.slice (Rect.unit (s := ⟨2, d⟩) off S384x768.size inb) (fun _ => rfl)) fullShare X
        ∗ owns (c.tc : Thread nD τ) ((N.slice R hR).squeeze S384x768 hs) fullShare Y
        ∗ ∃ Z, owns (c.tc : Thread nD τ) P fullShare Z)
      ⊢ iprop((iprop(owns (c.tc : Thread nD τ) (M.slice (Rect.unit (s := ⟨2, d⟩) off S384x768.size inb) (fun _ => rfl)) fullShare X
            ∗ owns (c.tc : Thread nD τ) ((N.slice R hR).squeeze S384x768 hs) fullShare Y
            ∗ owns (c.tc : Thread nD τ) P fullShare (down (plus X Y)))
            -∗ wp frame (wpE (defs₀ (F := F)) 𝒱₀ (c.tc : Thread nD τ) none) Set.univ (k ⟨⟩) Q)
        -∗ wp frame (wpE (defs₀ (F := F)) 𝒱₀ (c.tc : Thread nD τ) none) Set.univ
            (.op (.load M (Rect.unit (s := ⟨2, d⟩) off S384x768.size inb).toLoadRect lM) fun a =>
              .op (.load N R.toLoadRect lN) fun b =>
                .op (.load P full.toLoadRect lP) fun _ => .op (.store P full (v a b) Finset.univ hp hq) k) Q) := by
  iintro ⟨HM, HN, %Z, HP⟩ Hk
  iapply (load_part c M _ (fun _ => rfl) X) $$ HM
  iintro HM
  iapply (load_slot c N R hR hs Y) $$ HN
  iintro HN
  iapply (load_full c P Z) $$ HP
  iintro HP
  iapply (store_full c P Z _) $$ HP
  iintro HP
  iapply Hk
  rw [← hv X Y]
  isplitl [HM]; · iexact HM
  isplitl [HN] <;> iassumption

end Products

end Cert.Exchange

end
-- ==== Proof.Protocol.lean ====
/- The protocol of the exchange: for every semaphore who signals it, how much, and what the signal hands
   over.

   * The barrier semaphore of a device gets one unit from each of its two partners. A partner's unit hands
     over the landing blocks, on the partner, of the transfers the device sends there.
   * The receive semaphore of transfer `k` gets the credit of a block from the device's partner for `k`. It
     hands over the landing block at what that partner sends (`sent`).
   * The send semaphore of transfer `k` gets the same credit from the device's own transfer and hands its
     source block back.

   Every semaphore has this one round. A wait is allowed because the semaphores still owed by the waiting
   device stand at a higher level: barrier 1, receive semaphores of the first four transfers 2, of the last
   two 3, everything a device only owes to itself 0. -/
module

public import proofs.«01_k».proof.Proof.Blocks

@[expose] public section

noncomputable section

namespace Cert.Exchange

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the launch's account of rounds lives. -/
abbrev EP : Emb (UR sig nD τ) (MT nD τ sig Unit (Elt F) ℕ UU ℕ) := embL
/-- Where the exchange's account of rounds lives. -/
abbrev ER : Emb (URounds (GSem nD τ sig) Bool) (MT nD τ sig Unit (Elt F) ℕ UU ℕ) := embR

/-! ## What each semaphore is for -/

/-- The part a semaphore plays. -/
inductive Part where
  | bar
  | snd (k : Fin 6)
  | rcv (k : Fin 6)
  | off

/-- The part of every semaphore of the pool: the first three are the launch's own. -/
def part : SemLoc sig → Part
  | .reg _ => .bar
  | .dma q => if q.val < 3 then .off
      else if h : q.val - 3 < 6 then .snd ⟨q.val - 3, h⟩
      else .rcv ⟨q.val - 9, by have : q.val < 15 := q.isLt; omega⟩

theorem part_snd (k : Fin 6) : part (sndS k) = .snd k := by
  fin_cases k <;> rfl
theorem part_rcv (k : Fin 6) : part (rcvS k) = .rcv k := by
  fin_cases k <;> rfl

/-- The semaphores of the exchange in one list: the barrier, the six send semaphores, the six receive
semaphores. -/
def csem : Fin 13 → SemLoc sig
  | ⟨0, _⟩ => barS
  | ⟨i + 1, h⟩ => .dma ⟨i + 3, by show _ < 15; omega⟩

/-- The place of a send semaphore in the list. -/
abbrev iS (k : Fin 6) : Fin 13 := ⟨k.val + 1, by have := k.isLt; omega⟩
/-- The place of a receive semaphore in the list. -/
abbrev iR (k : Fin 6) : Fin 13 := ⟨k.val + 6 + 1, by have := k.isLt; omega⟩

/-- Semaphore `i` of device `c`. -/
abbrev cell (c : Dev nD) (i : Fin 13) : GSem nD τ sig := ((c.tc : Thread nD τ), csem i)

theorem cell_injective : Function.Injective fun ci : Dev nD × Fin 13 => cell ci.1 ci.2 := by
  have hi : Function.Injective csem := by decide
  rintro ⟨c, i⟩ ⟨d, j⟩ h
  have h₁ : c = d := congrArg (fun g : GSem nD τ sig => g.1.1) h
  have h₂ : i = j := hi (congrArg (fun g : GSem nD τ sig => g.2) h)
  rw [h₁, h₂]

/-! ## The payloads -/

variable (m : (ℓ : Loc nD τ sig) → ℓ.ty.Contents (Elt F))

/-- The landing block of transfer `k` on device `c`, at any contents. -/
def room (c : Dev nD) (k : Fin 6) : sProp 𝕄 := iprop(∃ X, owns (c.tc : Thread nD τ) (dstM k) fullShare X)
/-- The source block of transfer `k` on device `c`, at any contents. -/
def free (c : Dev nD) (k : Fin 6) : sProp 𝕄 := iprop(∃ X, owns (c.tc : Thread nD τ) (srcM k) fullShare X)
/-- The landing block of transfer `k` on device `c`, at what its partner sent. -/
def landed (c : Dev nD) (k : Fin 6) : sProp 𝕄 := owns (c.tc : Thread nD τ) (dstM k) fullShare (sent m (peer k c) k)

/-- What device `c` lends its partner `b` by signalling its barrier. -/
def lends (c : Dev nD) : Bool → sProp 𝕄
  | false => iprop(room c 2 ∗ room c 3 ∗ room c 4)
  | true => iprop(room c 0 ∗ room c 1 ∗ room c 5)

/-- What a signal hands to device `c`, by the part of the semaphore and the name of the duty. -/
def pay (c : Dev nD) (b : Bool) : Part → sProp 𝕄
  | .bar => lends (par b c) b
  | .snd k => free c k
  | .rcv k => landed m c k
  | .off => iprop(emp)

omit [FloatOps F] in
instance room_storable (c : Dev nD) (k : Fin 6) : BI.Storable (upEmb : UEmb _ 𝕄) (room (F := F) c k) := by unfold room; infer_instance
omit [FloatOps F] in
instance free_storable (c : Dev nD) (k : Fin 6) : BI.Storable (upEmb : UEmb _ 𝕄) (free (F := F) c k) := by unfold free; infer_instance
instance landed_storable (c : Dev nD) (k : Fin 6) : BI.Storable (upEmb : UEmb _ 𝕄) (landed m c k) := by unfold landed; infer_instance
omit [FloatOps F] in
instance lends_storable (c : Dev nD) (b : Bool) : BI.Storable (upEmb : UEmb _ 𝕄) (lends (F := F) c b) := by
  cases b <;> (unfold lends; infer_instance)
instance pay_storable (c : Dev nD) (b : Bool) (p : Part) : BI.Storable (upEmb : UEmb _ 𝕄) (pay m c b p) := by
  cases p <;> (unfold pay; infer_instance)

/-! ## The schedule -/

/-- The duties of a semaphore's only round. -/
def duties : Part → Finset Bool
  | .bar => Finset.univ
  | .snd _ => {false}
  | .rcv _ => {false}
  | .off => ∅

/-- The units one duty of a semaphore brings. -/
def units : Part → ℕ
  | .bar => 1
  | .snd _ => cr
  | .rcv _ => cr
  | .off => cr

/-- The schedule: one round, as the parts say. -/
def sched : Rounds.Schedule (GSem nD τ sig) Bool 𝕄 where
  duties g r := if r = 0 ∧ g.1.2 = .tc then duties (part g.2) else ∅
  unitless _ := False
  amount g _ _ := units (part g.2)
  payload g _ d := pay m g.1.1 d (part g.2)
  amount_pos g _ _ _ := by
    cases part g.2
    · exact Nat.one_pos
    all_goals exact cr_pos

instance sched_storable (g : GSem nD τ sig) (r : ℕ) (d : Bool) : BI.Storable (upEmb : UEmb _ 𝕄) ((sched m).payload g r d) :=
  inferInstanceAs (BI.Storable upEmb (pay m g.1.1 d (part g.2)))

theorem sched_duties (c : Dev nD) (sm : SemLoc sig) : (sched m).duties ((c.tc : Thread nD τ), sm) 0 = duties (part sm) := by
  dsimp only [sched]; exact if_pos ⟨rfl, rfl⟩
theorem sched_later (g : GSem nD τ sig) (r : ℕ) (h : 1 ≤ r) : (sched m).duties g r = ∅ := by
  dsimp only [sched]; exact if_neg fun h' => by omega
theorem sched_expect (c : Dev nD) (sm : SemLoc sig) :
    (sched m).expect ((c.tc : Thread nD τ), sm) 0 = (duties (part sm)).card * units (part sm) := by
  unfold Schedule.expect Schedule.amountOf
  rw [sched_duties]
  exact (Finset.sum_const _).trans (smul_eq_mul _ _)

/-- All a semaphore's round hands to its owner. -/
def yield (c : Dev nD) (p : Part) : sProp 𝕄 := bigSep (duties p) fun d => pay m c d p

theorem yield_eq (c : Dev nD) (sm : SemLoc sig) :
    bigSep ((sched m).duties ((c.tc : Thread nD τ), sm) 0 \ ∅) (fun d => (sched m).payload ((c.tc : Thread nD τ), sm) 0 d)
      = yield m c (part sm) := by
  rw [Finset.sdiff_empty, sched_duties]; rfl
theorem yield_bar (c : Dev nD) : yield m c .bar = iprop(lends (par false c) false ∗ lends (par true c) true) := by
  unfold yield
  exact bigSep_univ_eq_bigSepL [false, true] (by decide) (by decide) _
theorem yield_snd (c : Dev nD) (k : Fin 6) : yield m c (.snd k) = free c k := bigSep_singleton
theorem yield_rcv (c : Dev nD) (k : Fin 6) : yield m c (.rcv k) = landed m c k := bigSep_singleton

/-! ## What a device owes, and why it may wait -/

/-- The debt of a list of payments still to be made. -/
def due : List (GSem nD τ sig × ℕ) → CellTallies nD τ sig Unit
  | [] => 0
  | p :: l => due l + tallyAt p.1 () p.2

/-- Device `c`'s payments, in the order it makes them. -/
def dues (c : Dev nD) : List (GSem nD τ sig × ℕ) :=
  [(((par false c).tc, barS), 1), (((par true c).tc, barS), 1),
   (((peer 0 c).tc, rcvS 0), cr), (((peer 2 c).tc, rcvS 2), cr), (((peer 1 c).tc, rcvS 1), cr), (((peer 3 c).tc, rcvS 3), cr),
   (((peer 4 c).tc, rcvS 4), cr), (((peer 5 c).tc, rcvS 5), cr)]

/-- The level of a part. -/
def lvl : Part → ℕ
  | .bar => 1
  | .snd _ => 0
  | .rcv k => if k.val < 4 then 2 else 3
  | .off => 0

/-- The semaphores that have a level: those of the devices' own cores. -/
def L (g : GSem nD τ sig) : Finset Unit := if g.1.2 = .tc then {()} else ∅
/-- The level of a semaphore. -/
def lv (g : GSem nD τ sig) (_ : Unit) : ℕ := lvl (part g.2)

theorem L_of_ne (g : GSem nD τ sig) (h : g.1.2 ≠ .tc) : L g = ∅ := if_neg h

theorem due_pos : ∀ (l : List (GSem nD τ sig × ℕ)) (g : GSem nD τ sig) (u : Unit), 0 < due l g u → ∃ p ∈ l, p.1 = g
  | [], g, u, h => absurd h (Nat.lt_irrefl 0)
  | p :: l, g, u, h => by
      by_cases hg : p.1 = g
      · exact ⟨p, List.mem_cons_self .., hg⟩
      · have h' : 0 < due l g u := by
          unfold due at h
          rw [Pi.add_apply, Finsupp.add_apply, tallyAt_apply, if_neg (fun h' => hg h'.1.symm)] at h
          exact h
        obtain ⟨q, hq, e⟩ := due_pos l g u h'
        exact ⟨q, List.mem_cons_of_mem _ hq, e⟩

omit [FloatOps F] in
/-- A device may wait on a semaphore below every semaphore it still owes. -/
theorem mayWait_due (c : Dev nD) (sm : SemLoc sig) (l : List (GSem nD τ sig × ℕ))
    (h : ∀ p ∈ l, p.1.1.2 = .tc ∧ lvl (part sm) < lvl (part p.1.2)) :
    (levAts L lv : sProp 𝕄) ⊢ MayWait (c.tc : Thread nD τ) sm () (due l) := by
  refine MayOwe.of_cut (L := L) (lev := lv) (lvl (part sm)) (fun p hp => ?_) (fun g u hg => ?_) (fun p hp => ?_) (fun g u hg => ?_)
  · rw [Finset.mem_singleton.mp hp]; exact Finset.mem_singleton_self _
  · obtain ⟨p, hp, rfl⟩ := due_pos l g u hg
    unfold L; rw [if_pos (h p hp).1]; exact Finset.mem_singleton_self _
  · rw [Finset.mem_singleton.mp hp]; exact le_refl _
  · obtain ⟨p, hp, rfl⟩ := due_pos l g u hg
    exact (h p hp).2

/-! ## What every device knows, and what it holds of a transfer -/

/-- A semaphore follows the protocol, and its round has begun. -/
def known (g : GSem nD τ sig) : sProp 𝕄 := iprop(∃ κ : ℕ, cellInv ER (sched m) κ g ∗ reached ER g 0)

instance known_persistent (g : GSem nD τ sig) : BI.Persistent (known m g) := by unfold known; infer_instance

/-- Every semaphore of the exchange follows the protocol. -/
def world : sProp 𝕄 := bigSep (Finset.univ : Finset (Dev nD × Fin 13)) fun ci => known m (cell ci.1 ci.2)

instance world_persistent : BI.Persistent (world m) := by unfold world; infer_instance

theorem world_at (c : Dev nD) (i : Fin 13) : world m ⊢ known m (cell c i) :=
  bigSep_elim (Φ := fun ci : Dev nD × Fin 13 => known m (cell ci.1 ci.2)) (Finset.mem_univ (c, i))

/-- The debt of device `c` at some record of its waits. -/
def debt (c : Dev nD) (l : List (GSem nD τ sig × ℕ)) : sProp 𝕄 := iprop(∃ W, owes (c.tc : Thread nD τ) (due l) W)

/-- Transfer `k` of device `c` before it is sent: the right to signal both its semaphores, the device's
positions at its own two, and the credit for what will arrive. -/
def fresh (c : Dev nD) (k : Fin 6) : sProp 𝕄 :=
  iprop(dutyTok ER (cell c (iS k)) 0 false ∗ dutyTok ER (cell (peer k c) (iR k)) 0 false
    ∗ atPos ER (cell c (iS k)) 0 ∅ 0 ∗ atPos ER (cell c (iR k)) 0 ∅ 0 ∗ cred (tallyAt (cell c (iR k)) () cr))
/-- Transfer `k` sent, the one coming in not yet waited for. -/
def flying (c : Dev nD) (k : Fin 6) : sProp 𝕄 :=
  iprop(atPos ER (cell c (iS k)) 0 ∅ 0 ∗ cred (tallyAt (cell c (iS k)) () cr)
    ∗ atPos ER (cell c (iR k)) 0 ∅ 0 ∗ cred (tallyAt (cell c (iR k)) () cr))
/-- The incoming transfer `k` has landed; the outgoing one is not yet waited for. -/
def arrived (c : Dev nD) (k : Fin 6) : sProp 𝕄 :=
  iprop(atPos ER (cell c (iS k)) 0 ∅ 0 ∗ cred (tallyAt (cell c (iS k)) () cr) ∗ atPos ER (cell c (iR k)) 1 ∅ 0)
/-- Both are over. -/
def over (c : Dev nD) (k : Fin 6) : sProp 𝕄 :=
  iprop(atPos ER (cell c (iS k)) 1 ∅ 0 ∗ atPos ER (cell c (iR k)) 1 ∅ 0)

end Cert.Exchange

end
-- ==== Proof.Steps.lean ====
/- One rule per kind of step of the exchange: a barrier signal, a transfer, a wait for a transfer to land, a
   wait for a source to be free again. Each is stated for every transfer `k` at once. -/
module

public import proofs.«01_k».proof.Proof.Protocol

@[expose] public section

noncomputable section

namespace Cert.Exchange

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → ℓ.ty.Contents (Elt F))

section Steps
variable {α : Type} (c : Dev nD) (l : List (GSem nD τ sig × ℕ))

/-- Device `c` signals its partner `b`, which may from then on write into the blocks `c` lends it. -/
theorem signal_step (b : Bool) (n : Dev nD) (hn : n = par b c) (s : Sem sig) (hs : SemLoc.reg s = barS) (u : ℕ) (hu : u = 1)
    {k : PUnit → Prog (TpuEff nD τ sig (Elt F) Λ₀ .tc) α} {Q : α → sProp 𝕄} :
    iprop(world m ∗ debt c ((((par b c).tc, barS), 1) :: l) ∗ dutyTok ER (cell (par b c) 0) 0 b ∗ lends c b)
      ⊢ iprop((debt c l -∗ wp frame (wpE (defs₀ (F := F)) 𝒱₀ (c.tc : Thread nD τ) none) Set.univ (k ⟨⟩) Q)
        -∗ wp frame (wpE (defs₀ (F := F)) 𝒱₀ (c.tc : Thread nD τ) none) Set.univ (.op (.semSignal (n.tc : Thread nD τ) s u) k) Q) := by
  subst hn hu
  obtain rfl : s = (SemArray.scalar (sig.barrier 0 rfl) : Sems sig S_).sem := by injection hs
  iintro ⟨#HW, Hd, Ht, Hl⟩ Hk
  ihave #Hi := (world_at m (par b c) 0) $$ HW
  unfold known debt
  icases Hi with ⟨%κ, #Hi, #Hr⟩
  icases Hd with ⟨%W, Hd⟩
  iapply (Rounds.wp_signal 𝒱₀ ER (sched m) (c.tc : Thread nD τ) none (dst := ((par b c).tc : Thread nD τ)) (κ := κ) (r := 0)
      (d := b) (by rw [sched_duties]; exact Finset.mem_univ b) rfl () (due l) rfl) $$ [Hd Ht Hl]
  · isplitr; · iexact Hi
    isplitl [Hd]; · iexact Hd
    isplitl [Ht]; · iexact Ht
    isplitl [Hl]
    · rw [show (sched m).payload (((par b c).tc : Thread nD τ), barS) 0 b = lends (par b (par b c)) b from rfl, par_par]
      iexact Hl
    · iexact Hr
  iintro Hd
  iapply Hk
  iexists W
  iexact Hd

/-- Device `c` starts transfer `k`: the source holds what is to be sent, and the partner has lent the landing block. -/
theorem send_step (k : Fin 6) (n : Dev nD) (hn : n = peer k c) (S D : Memref sig .tc .vmem S384x768 .bf16) (hS : S = srcM k) (hD : D = dstM k)
    (a r : SemLoc sig) (ha : a = sndS k) (hr : r = rcvS k)
    {hsc : (D : Memref sig (Dev.tc n : Thread nD τ).2.kind .vmem S384x768 .bf16).view.ref.isScScratch = false}
    {hsrc : S.view.WordExact} {hdst : D.view.WordExact}
    {hsem : DmaTarget.Typed .vmem r (.remote (Dev.tc n : Thread nD τ) (D : Memref sig .tc .vmem S384x768 .bf16) a hsc)}
    {kt : PUnit → Prog (TpuEff nD τ sig (Elt F) Λ₀ .tc) α} {Q : α → sProp 𝕄} :
    iprop(world m ∗ debt c ((((peer k c).tc, rcvS k), cr) :: l) ∗ fresh c k ∗ room (peer k c) k
        ∗ owns (c.tc : Thread nD τ) (srcM k) fullShare (sent m c k))
      ⊢ iprop((iprop(debt c l ∗ flying c k) -∗ wp frame (wpE (defs₀ (F := F)) 𝒱₀ (c.tc : Thread nD τ) none) Set.univ (kt ⟨⟩) Q)
        -∗ wp frame (wpE (defs₀ (F := F)) 𝒱₀ (c.tc : Thread nD τ) none) Set.univ
            (.op (.enqueueDma S (.remote (Dev.tc n : Thread nD τ) D a hsc) r hsrc hdst hsem) kt) Q) := by
  subst hn hS hD ha hr
  iintro ⟨#HW, Hd, Hf, Hr, Hs⟩ Hk
  ihave #Hi₁ := (world_at m c (iS k)) $$ HW
  ihave #Hi₂ := (world_at m (peer k c) (iR k)) $$ HW
  unfold known debt fresh flying room owns
  icases Hi₁ with ⟨%κ₁, #Hi₁, #Hr₁⟩
  icases Hi₂ with ⟨%κ₂, #Hi₂, #Hr₂⟩
  icases Hd with ⟨%W, Hd⟩
  icases Hf with ⟨Ht₁, Ht₂, Ha₁, Ha₂, Hc⟩
  icases Hr with ⟨%Y, %fd, %hd, Hr⟩
  icases Hs with ⟨%fs, %hs, Hs⟩
  iapply (Rounds.wp_send_pointsTo 𝒱₀ ER (sched m) (c.tc : Thread nD τ) none (κ₁ := κ₁) (κ₂ := κ₂) (fs := fs) (fd := fd)
    (r₁ := 0) (r₂ := 0) (d₁ := false) (d₂ := false)
    (by rw [sched_duties, part_snd]; exact Finset.mem_singleton_self _) (by rw [sched_duties, part_rcv]; exact Finset.mem_singleton_self _)
    () () cr (show (dstM k).view.amount (rcvS k) = cr from dst_credit k)
    (by show units (part (sndS k)) = cr; rw [part_snd]; rfl) (by show units (part (rcvS k)) = cr; rw [part_rcv]; rfl)
    (due l) rfl (W := W)
    (by
      show _ ⊢ pay m c false (part (sndS k))
      rw [part_snd]
      show _ ⊢ free c k
      unfold free owns
      iintro H
      iexists _, fs
      isplitr
      · ipureintro; rfl
      · iexact H)
    (by
      show _ ⊢ pay m (peer k c) false (part (rcvS k))
      rw [part_rcv]
      show _ ⊢ landed m (peer k c) k
      unfold landed owns
      rw [peer_peer]
      iintro H
      iexists _
      isplitr
      rotate_left
      · iexact H
      · ipureintro
        rw [View.read_write_univ]; exact hs)) $$ [Hd Ht₁ Ht₂ Hr Hs]
  · isplitr; · iexact Hi₁
    isplitr; · iexact Hi₂
    isplitl [Hs]; · iexact Hs
    isplitl [Hr]; · iexact Hr
    isplitl [Hd]; · iexact Hd
    isplitl [Ht₁]; · iexact Ht₁
    isplitr; · iexact Hr₁
    isplitl [Ht₂]; · iexact Ht₂
    iexact Hr₂
  iintro ⟨Hc', Hd⟩
  iapply Hk
  isplitl [Hd]
  · iexists W; iexact Hd
  isplitl [Ha₁]; · iexact Ha₁
  isplitl [Hc']; · iexact Hc'
  isplitl [Ha₂]; · iexact Ha₂
  iexact Hc

/-- A wait for the whole round of a semaphore of device `c`: it gets everything the round hands over. -/
theorem wait_step (i : Fin 13) (sm : SemLoc sig) (hsm : sm = csem i) (u : ℕ) (hu : u = (duties (part sm)).card * units (part sm))
    (hl : ∀ p ∈ l, p.1.1.2 = .tc ∧ lvl (part sm) < lvl (part p.1.2))
    {w : TpuEff nD τ sig (Elt F) Λ₀ .tc PUnit}
    (hw : ∀ K : PUnit → sProp 𝕄, wpE (defs₀ (F := F)) 𝒱₀ (c.tc : Thread nD τ) none Set.univ w K = waitSpec (c.tc : Thread nD τ) Set.univ sm u K)
    {kt : PUnit → Prog (TpuEff nD τ sig (Elt F) Λ₀ .tc) α} {Q : α → sProp 𝕄} :
    iprop(world m ∗ levAts L lv ∗ debt c l ∗ atPos ER (cell c i) 0 ∅ 0 ∗ cred (tallyAt (cell c i) () u))
      ⊢ iprop((iprop(debt c l ∗ atPos ER (cell c i) 1 ∅ 0 ∗ yield m c (part sm))
            -∗ wp frame (wpE (defs₀ (F := F)) 𝒱₀ (c.tc : Thread nD τ) none) Set.univ (kt ⟨⟩) Q)
        -∗ wp frame (wpE (defs₀ (F := F)) 𝒱₀ (c.tc : Thread nD τ) none) Set.univ (.op w kt) Q) := by
  subst hsm
  iintro ⟨#HW, #HL, Hd, Ha, Hc⟩ Hk
  ihave #Hi := (world_at m c i) $$ HW
  unfold known debt
  icases Hi with ⟨%κ, #Hi, #Hr⟩
  icases Hd with ⟨%W, Hd⟩
  iapply (Rounds.wp_wait_rest_token 𝒱₀ ER (sched m) (c.tc : Thread nD τ) none (κ := κ) hw (Set.mem_univ _) () (O := due l) (W := W)
    (R := 0) (m := 0) (T := ∅) (by rw [sched_expect, hu, Nat.zero_add])) $$ [Hd Ha Hc]
  · isplitr; · iexact Hi
    isplitl [Hc]; · iexact Hc
    isplitl [Hd]; · iexact Hd
    isplitr; · iapply (mayWait_due c (csem i) l hl); iexact HL
    iexact Ha
  iintro ⟨Hd, Ha, -, Hp⟩
  iapply Hk
  isplitl [Hd]
  · iexists _; iexact Hd
  isplitl [Ha]; · iexact Ha
  rw [← yield_eq]
  iexact Hp

/-- The barrier wait: both partners have signalled, so every landing block `c` sends to is lent to it. -/
theorem barrier_step (s : Sem sig) (hs : SemLoc.reg s = barS) (u : ℕ) (hu : u = 2)
    (hl : ∀ p ∈ l, p.1.1.2 = .tc ∧ 1 < lvl (part p.1.2))
    {kt : PUnit → Prog (TpuEff nD τ sig (Elt F) Λ₀ .tc) α} {Q : α → sProp 𝕄} :
    iprop(world m ∗ levAts L lv ∗ debt c l ∗ atPos ER (cell c 0) 0 ∅ 0 ∗ cred (tallyAt (cell c 0) () 2))
      ⊢ iprop((iprop(debt c l ∗ atPos ER (cell c 0) 1 ∅ 0 ∗ lends (par false c) false ∗ lends (par true c) true)
            -∗ wp frame (wpE (defs₀ (F := F)) 𝒱₀ (c.tc : Thread nD τ) none) Set.univ (kt ⟨⟩) Q)
        -∗ wp frame (wpE (defs₀ (F := F)) 𝒱₀ (c.tc : Thread nD τ) none) Set.univ (.op (.semWait s u) kt) Q) := by
  subst hu
  rw [← yield_bar m c]
  exact wait_step m c l 0 (.reg s) hs 2 rfl hl (wpE_semWait_eq 𝒱₀ (c.tc : Thread nD τ) none Set.univ)

/-- The wait for the incoming transfer `k`. -/
theorem land_step (k : Fin 6) (s : DmaSem sig) (hs : SemLoc.dma s = rcvS k) (S D : Memref sig .tc .vmem S384x768 .bf16) (hD : D = dstM k)
    {h₁ : S.view.WordExact} {h₂ : D.view.WordExact}
    (hl : ∀ p ∈ l, p.1.1.2 = .tc ∧ lvl (.rcv k) < lvl (part p.1.2))
    {kt : PUnit → Prog (TpuEff nD τ sig (Elt F) Λ₀ .tc) α} {Q : α → sProp 𝕄} :
    iprop(world m ∗ levAts L lv ∗ debt c l ∗ flying c k)
      ⊢ iprop((iprop(debt c l ∗ arrived c k ∗ landed m c k)
            -∗ wp frame (wpE (defs₀ (F := F)) 𝒱₀ (c.tc : Thread nD τ) none) Set.univ (kt ⟨⟩) Q)
        -∗ wp frame (wpE (defs₀ (F := F)) 𝒱₀ (c.tc : Thread nD τ) none) Set.univ (.op (.waitDma2 s S D h₁ h₂) kt) Q) := by
  subst hD
  unfold flying arrived
  iintro ⟨#HW, #HL, Hd, Ha, Hc, Ha', Hc'⟩ Hk
  iapply (wait_step m c l (iR k) (.dma s) hs cr (by rw [hs, part_rcv]; exact (Nat.one_mul _).symm)
    (by rw [hs, part_rcv]; exact hl)
    (fun K => (wpE_waitDma2_eq 𝒱₀ (c.tc : Thread nD τ) none Set.univ K).trans (by rw [dst_credit]))) $$ [Hd Ha' Hc']
  · isplitr; · iexact HW
    isplitr; · iexact HL
    isplitl [Hd]; · iexact Hd
    isplitl [Ha'] <;> iassumption
  rw [hs, part_rcv, yield_rcv]
  iintro ⟨Hd, Ha', Hp⟩
  iapply Hk
  isplitl [Hd]; · iexact Hd
  isplitr [Hp]
  · isplitl [Ha]; · iexact Ha
    isplitl [Hc] <;> iassumption
  · iexact Hp

/-- The wait for the outgoing transfer `k`: its source block comes back. -/
theorem drain_step (k : Fin 6) (s : DmaSem sig) (hs : SemLoc.dma s = sndS k) (S D : Memref sig .tc .vmem S384x768 .bf16) (hD : D = srcM k)
    {h₁ : S.view.WordExact} {h₂ : D.view.WordExact}
    (hl : ∀ p ∈ l, p.1.1.2 = .tc ∧ 0 < lvl (part p.1.2))
    {kt : PUnit → Prog (TpuEff nD τ sig (Elt F) Λ₀ .tc) α} {Q : α → sProp 𝕄} :
    iprop(world m ∗ levAts L lv ∗ debt c l ∗ arrived c k)
      ⊢ iprop((iprop(debt c l ∗ over c k ∗ free c k)
            -∗ wp frame (wpE (defs₀ (F := F)) 𝒱₀ (c.tc : Thread nD τ) none) Set.univ (kt ⟨⟩) Q)
        -∗ wp frame (wpE (defs₀ (F := F)) 𝒱₀ (c.tc : Thread nD τ) none) Set.univ (.op (.waitDma2 s S D h₁ h₂) kt) Q) := by
  subst hD
  unfold over arrived
  iintro ⟨#HW, #HL, Hd, Ha, Hc, Ha'⟩ Hk
  iapply (wait_step m c l (iS k) (.dma s) hs cr (by rw [hs, part_snd]; exact (Nat.one_mul _).symm)
    (by rw [hs, part_snd]; exact hl)
    (fun K => (wpE_waitDma2_eq 𝒱₀ (c.tc : Thread nD τ) none Set.univ K).trans (by rw [src_credit]))) $$ [Hd Ha Hc]
  · isplitr; · iexact HW
    isplitr; · iexact HL
    isplitl [Hd]; · iexact Hd
    isplitl [Ha] <;> iassumption
  rw [hs, part_snd, yield_snd]
  iintro ⟨Hd, Ha, Hp⟩
  iapply Hk
  isplitl [Hd]; · iexact Hd
  isplitr [Hp]
  · isplitl [Ha] <;> iassumption
  · iexact Hp

/-- A semaphore whose round is over is closed at zero. -/
theorem close_cell (i : Fin 13) :
    iprop(world m ∗ atPos ER (cell c i) 1 ∅ 0) ⊢ (iprop(|={Set.univ}=> semVal (cell c i) 0) : sProp 𝕄) := by
  iintro ⟨#HW, Ha⟩
  ihave #Hi := (world_at m c i) $$ HW
  unfold known
  icases Hi with ⟨%κ, #Hi, -⟩
  iapply (Rounds.cell_close ER (sched m) (Set.mem_univ κ) (fun h => h) (R := 1) (fun r hr => sched_later m _ r hr)) $$ [Ha]
  isplitr
  · iexact Hi
  · iexact Ha

/-- Both semaphores of a transfer that is over are closed at zero. -/
theorem close_over (k : Fin 6) :
    iprop(world m ∗ over c k) ⊢ (iprop(|={Set.univ}=> (semVal (cell c (iS k)) 0 ∗ semVal (cell c (iR k)) 0)) : sProp 𝕄) := by
  unfold over
  iintro ⟨#HW, Ha, Hb⟩
  imod (close_cell m c (iS k)) $$ [Ha] with Ha
  · isplitr
    · iexact HW
    · iexact Ha
  imod (close_cell m c (iR k)) $$ [Hb] with Hb
  · isplitr
    · iexact HW
    · iexact Hb
  imodintro
  isplitl [Ha] <;> iassumption

end Steps

end Cert.Exchange

end
-- ==== Proof.Body.lean ====
/- The body of the kernel, run once at a device `c` nothing is known of. -/
module

public import proofs.«01_k».proof.Proof.Moves
public import proofs.«01_k».proof.Proof.Steps

@[expose] public section

noncomputable section

namespace Cert.Exchange

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → ℓ.ty.Contents (Elt F)) (c : Dev nD)

/-- Device `c`'s payments from the `n`-th on. -/
abbrev rest (n : ℕ) : List (GSem nD τ sig × ℕ) := (dues c).drop n

/-- The level of the semaphore each payment goes to. -/
def duesLvl : List ℕ := [1, 1, 2, 2, 2, 2, 3, 3]

theorem dues_lvl : (dues c).map (fun p => lvl (part p.1.2)) = duesLvl := by
  unfold dues duesLvl
  simp only [List.map_cons, List.map_nil, part_rcv]
  rfl

theorem dues_tc : ∀ p ∈ dues c, p.1.1.2 = .tc := by
  intro p hp
  fin_cases hp <;> rfl

/-- A wait is allowed while every payment left goes to a higher level. -/
theorem later (n : ℕ) {v : ℕ} (h : ∀ x ∈ duesLvl.drop n, v < x) :
    ∀ p ∈ rest c n, p.1.1.2 = .tc ∧ v < lvl (part p.1.2) := fun p hp =>
  ⟨dues_tc c p (List.mem_of_mem_drop hp), h _ (by
    rw [← dues_lvl c, ← List.map_drop]
    exact List.mem_map.mpr ⟨p, hp, rfl⟩)⟩

/-- A memref held at any contents. -/
abbrev some' {sp : Space} {s : Shape} {e : EltTy} (M : Memref sig .tc sp s e) : sProp 𝕄 :=
  iprop(∃ X, owns (c.tc : Thread nD τ) M fullShare X)

/-- The scratch buffers, at any contents. -/
def scratch : sProp 𝕄 :=
  iprop(some' c (Memref.whole cc0_scratch0) ∗ some' c (Memref.whole cc0_scratch1) ∗ some' c (Memref.whole cc0_scratch2)
    ∗ some' c (Memref.whole cc0_scratch3) ∗ some' c (Memref.whole cc0_scratch4) ∗ some' c (Memref.whole cc0_scratch5)
    ∗ some' c (Memref.whole cc0_scratch6) ∗ some' c (Memref.whole cc0_scratch7) ∗ some' c (Memref.whole cc0_scratch8))

/-- What device `c` begins the exchange with. -/
def ghost : sProp 𝕄 :=
  iprop(world m ∗ levAts L lv ∗ dutyTok ER (cell (par false c) 0) 0 false ∗ dutyTok ER (cell (par true c) 0) 0 true
    ∗ atPos ER (cell c 0) 0 ∅ 0 ∗ cred (tallyAt (cell c 0) () 2)
    ∗ fresh c 0 ∗ fresh c 1 ∗ fresh c 2 ∗ fresh c 3 ∗ fresh c 4 ∗ fresh c 5)

/-- The two semaphores of transfer `k`, at zero. -/
abbrev zeros (k : Fin 6) : sProp 𝕄 := iprop(semVal (cell c (iS k)) 0 ∗ semVal (cell c (iR k)) 0)

/-- The device's semaphores at the end of the exchange. -/
def quiet : sProp 𝕄 :=
  iprop(semVal (cell c 0) 0 ∗ zeros c 0 ∗ zeros c 1 ∗ zeros c 2 ∗ zeros c 3 ∗ zeros c 4 ∗ zeros c 5)

/-- What the body runs from. -/
def bodyPre : sProp 𝕄 :=
  iprop(ghost m c ∗ scratch c ∗ debt c (dues c)
    ∗ owns (c.tc : Thread nD τ) (Memref.whole cc0_stg0_0) fullShare (opA m c)
    ∗ owns (c.tc : Thread nD τ) (Memref.whole cc0_stg1_0) fullShare (opB m c)
    ∗ some' c (Memref.whole cc0_stg2_0))

/-- What the body leaves. -/
def bodyPost : sProp 𝕄 :=
  iprop(quiet c ∗ scratch c ∗ debt c []
    ∗ owns (c.tc : Thread nD τ) (Memref.whole cc0_stg0_0) fullShare (opA m c)
    ∗ owns (c.tc : Thread nD τ) (Memref.whole cc0_stg1_0) fullShare (opB m c)
    ∗ owns (c.tc : Thread nD τ) (Memref.whole cc0_stg2_0) fullShare (outAt m c))

set_option maxRecDepth 65536 in
set_option maxHeartbeats 4000000 in
/-- The body runs from `bodyPre` to `bodyPost`. -/
theorem sound_body (Kt : PUnit → sProp 𝕄) :
    iprop(bodyPre m c ∗ (bodyPost m c -∗ Kt ⟨⟩))
      ⊢ wp frame (wpE (defs₀ (F := F)) 𝒱₀ (c.tc : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scratch10) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre ghost scratch
  iintro ⟨⟨⟨#HW, #HL, Htf, Htt, HatB, HcB, F0, F1, F2, F3, F4, F5⟩, ⟨⟨%Xa, Ha⟩, H1, H2, H3, H4, S4, B4, S5, B5⟩, Hd, HA, HB, %Xo, Ho⟩, Hk⟩
  -- the buffers are taken apart
  icases (slots_split c _) $$ H1 with ⟨S0, S1, H1⟩
  icases (slots_split c _) $$ H2 with ⟨S2, S3, H2⟩
  icases (slots_split c _) $$ H3 with ⟨B0, B1, H3⟩
  icases (slots_split c _) $$ H4 with ⟨B2, B3, H4⟩
  icases (carve c _ (accL c) (accR c) (fun _ => rfl) (fun _ => rfl) (acc_disjoint c) Xa) $$ Ha with ⟨HaL, HaR, Ha⟩
  icases (carve c _ outL outR (fun _ => rfl) (fun _ => rfl) out_disjoint Xo) $$ Ho with ⟨HoL, HoR, Ho⟩
  ihave Hlf : lends c false $$ [B2 B3 B4]
  · unfold lends room
    isplitl [B2]; · iexact B2
    isplitl [B3] <;> iassumption
  ihave Hlt : lends c true $$ [B0 B1 B5]
  · unfold lends room
    isplitl [B0]; · iexact B0
    isplitl [B1] <;> iassumption
  -- both partners are told that this device's landing blocks may be written, and the wait for theirs
  iapply (signal_step m c (rest c 1) false _ (dev1_eq c) _ rfl _ (by decide)) $$ [Hd Htf Hlf]
  · isplitr; · iexact HW
    isplitl [Hd]; · iexact Hd
    isplitl [Htf] <;> iassumption
  iintro Hd
  iapply (signal_step m c (rest c 2) true _ (dev2_eq c) _ rfl _ (by decide)) $$ [Hd Htt Hlt]
  · isplitr; · iexact HW
    isplitl [Hd]; · iexact Hd
    isplitl [Htt] <;> iassumption
  iintro Hd
  iapply (barrier_step m c (rest c 2) _ rfl _ (by decide) (later c _ (by decide))) $$ [Hd HatB HcB]
  · isplitr; · iexact HW
    isplitr; · iexact HL
    isplitl [Hd]; · iexact Hd
    isplitl [HatB] <;> iassumption
  iintro ⟨Hd, HatB, Hlf, Hlt⟩
  unfold lends
  icases Hlf with ⟨R2, R3, R4⟩
  icases Hlt with ⟨R0, R1, R5⟩
  -- the first round: four products are staged and sent
  iapply (stage_step m c _ _ (par false (par true c)) _ (off1_eq c) false _ rfl (Memref.whole cc0_scratch1) slot0 (fun _ => rfl) squeezes_S1x384x768_S384x768 _ pay1_eq) $$ [HA HB S0]
  · isplitl [HA]; · iexact HA
    isplitl [HB] <;> iassumption
  iintro ⟨HA, HB, S0⟩
  iapply (send_step m c (rest c 3) 0 _ (dev3_eq c) _ _ rfl rfl _ _ rfl rfl) $$ [Hd F0 R0 S0]
  · isplitr; · iexact HW
    isplitl [Hd]; · iexact Hd
    isplitl [F0]; · iexact F0
    isplitl [R0]; · iexact R0
    iexact S0
  iintro ⟨Hd, F0⟩
  iapply (stage_step m c _ _ (par false (par true c)) _ (off2_eq c) true _ rfl (Memref.whole cc0_scratch2) slot0 (fun _ => rfl) squeezes_S1x384x768_S384x768 _ pay2_eq) $$ [HA HB S2]
  · isplitl [HA]; · iexact HA
    isplitl [HB] <;> iassumption
  iintro ⟨HA, HB, S2⟩
  iapply (send_step m c (rest c 4) 2 _ (dev4_eq c) _ _ rfl rfl _ _ rfl rfl) $$ [Hd F2 R2 S2]
  · isplitr; · iexact HW
    isplitl [Hd]; · iexact Hd
    isplitl [F2]; · iexact F2
    isplitl [R2]; · iexact R2
    iexact S2
  iintro ⟨Hd, F2⟩
  iapply (stage_step m c _ _ (par true c) _ (off3_eq c) false _ rfl (Memref.whole cc0_scratch1) slot1 (fun _ => rfl) squeezes_S1x384x768_S384x768 _ pay3_eq) $$ [HA HB S1]
  · isplitl [HA]; · iexact HA
    isplitl [HB] <;> iassumption
  iintro ⟨HA, HB, S1⟩
  iapply (send_step m c (rest c 5) 1 _ (dev5_eq c) _ _ rfl rfl _ _ rfl rfl) $$ [Hd F1 R1 S1]
  · isplitr; · iexact HW
    isplitl [Hd]; · iexact Hd
    isplitl [F1]; · iexact F1
    isplitl [R1]; · iexact R1
    iexact S1
  iintro ⟨Hd, F1⟩
  iapply (stage_step m c _ _ (par false c) _ (off4_eq c) true _ rfl (Memref.whole cc0_scratch2) slot1 (fun _ => rfl) squeezes_S1x384x768_S384x768 _ pay4_eq) $$ [HA HB S3]
  · isplitl [HA]; · iexact HA
    isplitl [HB] <;> iassumption
  iintro ⟨HA, HB, S3⟩
  iapply (send_step m c (rest c 6) 3 _ (dev6_eq c) _ _ rfl rfl _ _ rfl rfl) $$ [Hd F3 R3 S3]
  · isplitr; · iexact HW
    isplitl [Hd]; · iexact Hd
    isplitl [F3]; · iexact F3
    isplitl [R3]; · iexact R3
    iexact S3
  iintro ⟨Hd, F3⟩
  -- the products kept: two in the accumulator, two in the result
  iapply (keep_step m c _ _ (par false c) _ (off4_eq c) false _ rfl (Memref.whole cc0_scratch0) _ _ _ pay5_eq) $$ [HA HB HaL]
  · isplitl [HA]; · iexact HA
    isplitl [HB]; · iexact HB
    iexists _; iexact HaL
  iintro ⟨HA, HB, HaL⟩
  iapply (keep_step m c _ _ (par true c) _ (off3_eq c) true _ rfl (Memref.whole cc0_scratch0) _ _ _ pay6_eq) $$ [HA HB HaR]
  · isplitl [HA]; · iexact HA
    isplitl [HB]; · iexact HB
    iexists _; iexact HaR
  iintro ⟨HA, HB, HaR⟩
  iapply (keep_step m c _ _ (c) _ rfl false _ rfl (Memref.whole cc0_stg2_0) _ _ _ (fun _ _ => rfl)) $$ [HA HB HoL]
  · isplitl [HA]; · iexact HA
    isplitl [HB]; · iexact HB
    iexists _; iexact HoL
  iintro ⟨HA, HB, HoL⟩
  iapply (keep_step m c _ _ (c) _ rfl true _ rfl (Memref.whole cc0_stg2_0) _ _ _ pay8_eq) $$ [HA HB HoR]
  · isplitl [HA]; · iexact HA
    isplitl [HB]; · iexact HB
    iexists _; iexact HoR
  iintro ⟨HA, HB, HoR⟩
  -- the second round: what landed is added to the accumulator's block and sent on
  iapply (land_step m c (rest c 6) 0 _ rfl _ _ rfl (later c _ (by decide))) $$ [Hd F0]
  · isplitr; · iexact HW
    isplitr; · iexact HL
    isplitl [Hd] <;> iassumption
  iintro ⟨Hd, F0, R0⟩
  unfold landed
  iapply (forward_step c (Memref.whole cc0_scratch0) _ _ (Memref.whole cc0_scratch3) slot0 (fun _ => rfl) squeezes_S1x384x768_S384x768
    (Memref.whole cc0_scratch5) _ pay10_eq _ _) $$ [HaL R0 S4]
  · isplitl [HaL]; · iexact HaL
    isplitl [R0] <;> iassumption
  iintro ⟨HaL, R0, S4⟩
  iapply (send_step m c (rest c 7) 4 _ (dev7_eq c) _ _ rfl rfl _ _ rfl rfl) $$ [Hd F4 R4 S4]
  · isplitr; · iexact HW
    isplitl [Hd]; · iexact Hd
    isplitl [F4]; · iexact F4
    isplitl [R4]; · iexact R4
    iexact S4
  iintro ⟨Hd, F4⟩
  iapply (land_step m c (rest c 7) 2 _ rfl _ _ rfl (later c _ (by decide))) $$ [Hd F2]
  · isplitr; · iexact HW
    isplitr; · iexact HL
    isplitl [Hd] <;> iassumption
  iintro ⟨Hd, F2, R2⟩
  unfold landed
  iapply (forward_step c (Memref.whole cc0_scratch0) _ _ (Memref.whole cc0_scratch4) slot0 (fun _ => rfl) squeezes_S1x384x768_S384x768
    (Memref.whole cc0_scratch7) _ pay11_eq _ _) $$ [HaR R2 S5]
  · isplitl [HaR]; · iexact HaR
    isplitl [R2] <;> iassumption
  iintro ⟨HaR, R2, S5⟩
  iapply (send_step m c (rest c 8) 5 _ (dev8_eq c) _ _ rfl rfl _ _ rfl rfl) $$ [Hd F5 R5 S5]
  · isplitr; · iexact HW
    isplitl [Hd]; · iexact Hd
    isplitl [F5]; · iexact F5
    isplitl [R5]; · iexact R5
    iexact S5
  iintro ⟨Hd, F5⟩
  -- what lands is added to the result
  iapply (land_step m c (rest c 8) 1 _ rfl _ _ rfl (later c _ (by decide))) $$ [Hd F1]
  · isplitr; · iexact HW
    isplitr; · iexact HL
    isplitl [Hd] <;> iassumption
  iintro ⟨Hd, F1, R1⟩
  unfold landed
  iapply (add_slot_step c (Memref.whole cc0_stg2_0) _ _ (Memref.whole cc0_scratch3) slot1 (fun _ => rfl) squeezes_S1x384x768_S384x768 _ pay12_eq _ _) $$ [HoL R1]
  · isplitl [HoL] <;> iassumption
  iintro ⟨HoL, R1⟩
  iapply (land_step m c (rest c 8) 3 _ rfl _ _ rfl (later c _ (by decide))) $$ [Hd F3]
  · isplitr; · iexact HW
    isplitr; · iexact HL
    isplitl [Hd] <;> iassumption
  iintro ⟨Hd, F3, R3⟩
  unfold landed
  iapply (add_slot_step c (Memref.whole cc0_stg2_0) _ _ (Memref.whole cc0_scratch4) slot1 (fun _ => rfl) squeezes_S1x384x768_S384x768 _ pay13_eq _ _) $$ [HoR R3]
  · isplitl [HoR] <;> iassumption
  iintro ⟨HoR, R3⟩
  iapply (land_step m c (rest c 8) 4 _ rfl _ _ rfl (later c _ (by decide))) $$ [Hd F4]
  · isplitr; · iexact HW
    isplitr; · iexact HL
    isplitl [Hd] <;> iassumption
  iintro ⟨Hd, F4, R4⟩
  unfold landed
  iapply (add_full_step c (Memref.whole cc0_stg2_0) _ _ (Memref.whole cc0_scratch6) _ pay14_eq _ _) $$ [HoL R4]
  · isplitl [HoL] <;> iassumption
  iintro ⟨HoL, R4⟩
  iapply (land_step m c (rest c 8) 5 _ rfl _ _ rfl (later c _ (by decide))) $$ [Hd F5]
  · isplitr; · iexact HW
    isplitr; · iexact HL
    isplitl [Hd] <;> iassumption
  iintro ⟨Hd, F5, R5⟩
  unfold landed
  iapply (add_full_step c (Memref.whole cc0_stg2_0) _ _ (Memref.whole cc0_scratch8) _ pay15_eq _ _) $$ [HoR R5]
  · isplitl [HoR] <;> iassumption
  iintro ⟨HoR, R5⟩
  -- the sources come back
  iapply (drain_step m c (rest c 8) 0 _ rfl _ _ rfl (fun _ h => nomatch h)) $$ [Hd F0]
  · isplitr; · iexact HW
    isplitr; · iexact HL
    isplitl [Hd] <;> iassumption
  iintro ⟨Hd, F0, S0⟩
  iapply (drain_step m c (rest c 8) 2 _ rfl _ _ rfl (fun _ h => nomatch h)) $$ [Hd F2]
  · isplitr; · iexact HW
    isplitr; · iexact HL
    isplitl [Hd] <;> iassumption
  iintro ⟨Hd, F2, S2⟩
  iapply (drain_step m c (rest c 8) 1 _ rfl _ _ rfl (fun _ h => nomatch h)) $$ [Hd F1]
  · isplitr; · iexact HW
    isplitr; · iexact HL
    isplitl [Hd] <;> iassumption
  iintro ⟨Hd, F1, S1⟩
  iapply (drain_step m c (rest c 8) 3 _ rfl _ _ rfl (fun _ h => nomatch h)) $$ [Hd F3]
  · isplitr; · iexact HW
    isplitr; · iexact HL
    isplitl [Hd] <;> iassumption
  iintro ⟨Hd, F3, S3⟩
  iapply (drain_step m c (rest c 8) 4 _ rfl _ _ rfl (fun _ h => nomatch h)) $$ [Hd F4]
  · isplitr; · iexact HW
    isplitr; · iexact HL
    isplitl [Hd] <;> iassumption
  iintro ⟨Hd, F4, S4⟩
  iapply (drain_step m c (rest c 8) 5 _ rfl _ _ rfl (fun _ h => nomatch h)) $$ [Hd F5]
  · isplitr; · iexact HW
    isplitr; · iexact HL
    isplitl [Hd] <;> iassumption
  iintro ⟨Hd, F5, S5⟩
  -- every semaphore is closed and every buffer put together
  imod (close_cell m c 0) $$ [HatB] with HatB
  · isplitr; · iexact HW
    iexact HatB
  imod (close_over m c 0) $$ [F0] with F0
  · isplitr; · iexact HW
    iexact F0
  imod (close_over m c 1) $$ [F1] with F1
  · isplitr; · iexact HW
    iexact F1
  imod (close_over m c 2) $$ [F2] with F2
  · isplitr; · iexact HW
    iexact F2
  imod (close_over m c 3) $$ [F3] with F3
  · isplitr; · iexact HW
    iexact F3
  imod (close_over m c 4) $$ [F4] with F4
  · isplitr; · iexact HW
    iexact F4
  imod (close_over m c 5) $$ [F5] with F5
  · isplitr; · iexact HW
    iexact F5
  rw [wp_ret]
  imodintro
  iapply Hk
  unfold bodyPost quiet scratch free
  isplitl [HatB F0 F1 F2 F3 F4 F5]
  · isplitl [HatB]; · iexact HatB
    isplitl [F0]; · iexact F0
    isplitl [F1]; · iexact F1
    isplitl [F2]; · iexact F2
    isplitl [F3]; · iexact F3
    isplitl [F4] <;> iassumption
  ihave Ha := (patch c _ (accL c) (accR c) (fun _ => rfl) (fun _ => rfl) (acc_disjoint c) _ _) $$ [HaL HaR Ha]
  · isplitl [HaL]; · iexact HaL
    isplitl [HaR] <;> iassumption
  icases Ha with ⟨%Ya, -, Ha⟩
  ihave Ho := (patch c _ outL outR (fun _ => rfl) (fun _ => rfl) out_disjoint _ _) $$ [HoL HoR Ho]
  · isplitl [HoL]; · iexact HoL
    isplitl [HoR] <;> iassumption
  icases Ho with ⟨%Yo, %ho, Ho⟩
  ihave H1 := (slots_join c _) $$ [S0 S1 H1]
  · isplitl [S0]; · iexact S0
    isplitl [S1] <;> iassumption
  ihave H2 := (slots_join c _) $$ [S2 S3 H2]
  · isplitl [S2]; · iexact S2
    isplitl [S3] <;> iassumption
  ihave H3 := (slots_join c _) $$ [R0 R1 H3]
  · isplitl [R0]; · iexists _; iexact R0
    isplitl [R1]
    · iexists _; iexact R1
    · iexact H3
  ihave H4 := (slots_join c _) $$ [R2 R3 H4]
  · isplitl [R2]; · iexists _; iexact R2
    isplitl [R3]
    · iexists _; iexact R3
    · iexact H4
  isplitr [Hd HA HB Ho]
  · isplitl [Ha]; · iexists Ya; iexact Ha
    isplitl [H1]; · iexact H1
    isplitl [H2]; · iexact H2
    isplitl [H3]; · iexact H3
    isplitl [H4]; · iexact H4
    isplitl [S4]; · iexact S4
    isplitl [R4]; · iexists _; iexact R4
    isplitl [S5]; · iexact S5
    iexists _; iexact R5
  isplitl [Hd]; · iexact Hd
  isplitl [HA]; · iexact HA
  isplitl [HB]; · iexact HB
  rw [show outAt m c = Yo from (eq_beside Yo (result m c) ho.1 ho.2).symm]
  iexact Ho

end Cert.Exchange

end
-- ==== Proof.Deal.lean ====
/- What the launch hands each device of the exchange's ghost state: every semaphore is put under the protocol,
   and the right to make a signal goes to the device that makes it. -/
module

public import proofs.«01_k».proof.Proof.Body

@[expose] public section

noncomputable section

namespace Cert.Exchange

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → ℓ.ty.Contents (Elt F))

/-! ## The duties of a device's semaphores -/

/-- The duties of one device's semaphores: two at the barrier, one at each of the other twelve. -/
abbrev Duty : Type := Bool ⊕ (Fin 6 ⊕ Fin 6)
/-- The semaphore of a duty. -/
def dutyCell : Duty → Fin 13
  | .inl _ => 0
  | .inr (.inl k) => iS k
  | .inr (.inr k) => iR k
/-- The name of a duty. -/
def dutyName : Duty → Bool
  | .inl b => b
  | .inr _ => false
/-- Whose semaphore a device signals under a duty. -/
def dutyTo : Duty → Dev nD ≃ Dev nD
  | .inl b => parE b
  | .inr (.inl _) => Equiv.refl _
  | .inr (.inr k) => parE (side k)

theorem duty_injective : Function.Injective fun j : Duty => (dutyCell j, dutyName j) := by decide

/-- A duty of a device as the account of rounds names it. -/
def dutyAt (cj : Dev nD × Duty) : GSem nD τ sig × ℕ × Bool := (cell cj.1 (dutyCell cj.2), 0, dutyName cj.2)

theorem dutyAt_injective : Function.Injective dutyAt := by
  rintro ⟨c, j⟩ ⟨c', j'⟩ h
  have h₁ := @cell_injective (c, dutyCell j) (c', dutyCell j') (congrArg Prod.fst h)
  have h₂ : dutyName j = dutyName j' := congrArg (fun x : GSem nD τ sig × ℕ × Bool => x.2.2) h
  have hc : c = c' := congrArg Prod.fst h₁
  have hj : dutyCell j = dutyCell j' := congrArg Prod.snd h₁
  exact Prod.ext hc (duty_injective (Prod.ext hj h₂))

/-- Every semaphore of the exchange. -/
def allCells : Finset (GSem nD τ sig) := Finset.univ.map ⟨fun ci : Dev nD × Fin 13 => cell ci.1 ci.2, cell_injective⟩
/-- Every duty of the exchange. -/
def allDuties : Finset (GSem nD τ sig × ℕ × Bool) := Finset.univ.map ⟨dutyAt, dutyAt_injective⟩

/-- The duties of device `c`'s semaphores. -/
def minted (c : Dev nD) : sProp 𝕄 := bigSep Finset.univ fun j : Duty => dutyTok ER (cell c (dutyCell j)) 0 (dutyName j)
/-- The duties device `c` fulfils. -/
def held (c : Dev nD) : sProp 𝕄 := bigSep Finset.univ fun j : Duty => dutyTok ER (cell (dutyTo j c) (dutyCell j)) 0 (dutyName j)
/-- Device `c`'s positions at its semaphores. -/
def positions (c : Dev nD) : sProp 𝕄 := bigSep Finset.univ fun i : Fin 13 => atPos ER (cell c i) 0 ∅ 0

/-- From the device that fulfils a duty to the device whose semaphore it is of. -/
def fulfil : Dev nD × Duty ≃ Dev nD × Duty where
  toFun cj := (dutyTo cj.2 cj.1, cj.2)
  invFun cj := ((dutyTo cj.2).symm cj.1, cj.2)
  left_inv cj := Prod.ext ((dutyTo cj.2).symm_apply_apply cj.1) rfl
  right_inv cj := Prod.ext ((dutyTo cj.2).apply_symm_apply cj.1) rfl

omit [FloatOps F] in
/-- Handing every duty to the device that fulfils it. -/
theorem hand_out : (bigSep Finset.univ fun c : Dev nD => (minted c : sProp 𝕄)) = bigSep Finset.univ fun c : Dev nD => held c := by
  unfold minted held
  have h := bigSep_univ_equiv fulfil fun cj : Dev nD × Duty => (dutyTok ER (cell cj.1 (dutyCell cj.2)) 0 (dutyName cj.2) : sProp 𝕄)
  rw [bigSep_univ_prod, bigSep_univ_prod] at h
  exact h

/-! ## Sums over a device's semaphores -/

/-- The thirteen semaphores of a device: the barrier, six send semaphores, six receive semaphores. -/
def thirteen : Unit ⊕ (Fin 6 ⊕ Fin 6) ≃ Fin 13 :=
  Equiv.ofBijective (fun | .inl _ => 0 | .inr (.inl k) => iS k | .inr (.inr k) => iR k) (by decide)

omit [FloatOps F] in
theorem over_cells (Φ : Fin 13 → sProp 𝕄) :
    bigSep Finset.univ Φ = iprop(Φ 0 ∗ (bigSep Finset.univ fun k : Fin 6 => Φ (iS k)) ∗ bigSep Finset.univ fun k : Fin 6 => Φ (iR k)) := by
  rw [bigSep_univ_equiv thirteen, bigSep_univ_sum, bigSep_univ_sum]
  exact congrArg (fun P => iprop(P ∗ _)) (bigSep_singleton (Φ := fun _ : Unit => Φ 0) (i := ()))

omit [FloatOps F] in
theorem over_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem held_eq (c : Dev nD) :
    (held c : sProp 𝕄) = iprop((dutyTok ER (cell (par false c) 0) 0 false ∗ dutyTok ER (cell (par true c) 0) 0 true)
      ∗ (bigSep Finset.univ fun k : Fin 6 => dutyTok ER (cell c (iS k)) 0 false)
      ∗ bigSep Finset.univ fun k : Fin 6 => dutyTok ER (cell (peer k c) (iR k)) 0 false) := by
  unfold held
  rw [bigSep_univ_sum, bigSep_univ_sum, bigSep_univ_eq_bigSepL [false, true] (by decide) (by decide)]
  rfl

/-! ## What the launch hands out -/

/-- What the launch's ghost element gives for device `c`. -/
def dealt (c : Dev nD) : sProp 𝕄 :=
  iprop((bigSep Finset.univ fun i : Fin 13 => roundState ER (sched m) (cell c i) 0)
    ∗ (bigSep Finset.univ fun i : Fin 13 => reached ER (cell c i) 0) ∗ positions c ∗ minted c)

/-- What device `c` has once every semaphore is under the protocol. -/
def ready (c : Dev nD) : sProp 𝕄 := iprop(world m ∗ positions c ∗ held c)

theorem fund_exchange : BI.own (ER (initOf allCells allDuties)) ⊢ (|==> bigSep Finset.univ (dealt m) : sProp 𝕄) := by
  have hC (Φ : GSem nD τ sig → sProp 𝕄) : bigSep allCells Φ = bigSep Finset.univ fun c : Dev nD => bigSep Finset.univ fun i : Fin 13 => Φ (cell c i) := by
    unfold allCells; rw [bigSep_map, bigSep_univ_prod]; rfl
  have hD : bigSep allDuties (fun x => (dutyTok ER x.1 x.2.1 x.2.2 : sProp 𝕄)) = bigSep Finset.univ fun c : Dev nD => minted c := by
    unfold allDuties; rw [bigSep_map, bigSep_univ_prod]; rfl
  iintro H
  imod (Rounds.fund ER (sched m) allCells allDuties) $$ H with ⟨Hs, Hr, Ha, Ht⟩
  imodintro
  ihave Hs := (Entails.of_eq (hC fun g => roundState ER (sched m) g 0)) $$ Hs
  ihave Hr := (Entails.of_eq (hC fun g => reached ER g 0)) $$ Hr
  ihave Ha := (Entails.of_eq (hC fun g => atPos ER g 0 ∅ 0)) $$ Ha
  ihave Ht := (Entails.of_eq hD) $$ Ht
  unfold dealt positions
  simp only [bigSep_sep']
  isplitl [Hs]; · iexact Hs
  isplitl [Hr]; · iexact Hr
  isplitl [Ha] <;> iassumption

/-- The twelve transfer semaphores: the kernel's own. -/
abbrev osem : Fin 6 ⊕ Fin 6 → SemLoc sig
  | .inl k => sndS k
  | .inr k => rcvS k

omit [FloatOps F] in
theorem barrier_eq (c : Dev nD) : (unscopedSems0 c : sProp 𝕄) = semVal (cell c 0) 0 := by
  unfold unscopedSems0; rw [bigSep_eq_bigSepL_of_eq [SemLoc.reg (SemArray.scalar (sig.barrier 0 rfl) : Sems sig S_).sem] (by decide) (by decide)]; rfl

omit [FloatOps F] in
theorem own_eq (c : Dev nD) :
    (Pipeline.ownSems0 (Ix := Unit) (Name := ℕ) (U := UU) (Lvl := ℕ) (Val := Elt F) (τ := τ) osem c : sProp 𝕄)
      = iprop((bigSep Finset.univ fun k : Fin 6 => semVal (cell c (iS k)) 0) ∗ bigSep Finset.univ fun k : Fin 6 => semVal (cell c (iR k)) 0) := by
  unfold Pipeline.ownSems0
  rw [bigSep_univ_sum]
  rfl

omit [FloatOps F] in
theorem all_eq (c : Dev nD) :
    (bigSep Finset.univ fun i : Fin 13 => (semVal (cell c i) 0 : sProp 𝕄))
      = iprop(unscopedSems0 c ∗ Pipeline.ownSems0 (Ix := Unit) (Name := ℕ) (U := UU) (Lvl := ℕ) (Val := Elt F) (τ := τ) osem c) := by
  rw [over_cells, barrier_eq, own_eq]

/-- Every semaphore of a device is put under the protocol. -/
theorem device_alloc (c : Dev nD) :
    iprop(Pipeline.ownSems0 (Ix := Unit) (Name := ℕ) (U := UU) (Lvl := ℕ) (Val := Elt F) (τ := τ) osem c ∗ unscopedSems0 c ∗ dealt m c)
      ⊢ (iprop(|={Set.univ}=> ((bigSep Finset.univ fun i : Fin 13 => known m (cell c i)) ∗ positions c ∗ minted c)) : sProp 𝕄) := by
  have alloc : iprop((bigSep Finset.univ fun i : Fin 13 => (semVal (cell c i) 0 : sProp 𝕄)) ∗ bigSep Finset.univ fun i : Fin 13 => roundState ER (sched m) (cell c i) 0)
      ⊢ |={Set.univ}=> bigSep Finset.univ fun i : Fin 13 => iprop(∃ κ : ℕ, cellInv ER (sched m) κ (cell c i)) := by
    rw [← bigSep_sep']
    exact (bigSep_mono fun i _ => (Rounds.body_intro ER (sched m) (cell c i)).trans inv_alloc).trans (bigSep_fupd _ _)
  have place : iprop((bigSep Finset.univ fun i : Fin 13 => iprop(∃ κ : ℕ, cellInv ER (sched m) κ (cell c i)))
        ∗ bigSep Finset.univ fun i : Fin 13 => (reached ER (cell c i) 0 : sProp 𝕄)) ⊢ (bigSep Finset.univ fun i : Fin 13 => known m (cell c i) : sProp 𝕄) := by
    rw [← bigSep_sep']
    refine bigSep_mono fun i _ => ?_
    show (iprop((∃ κ : ℕ, cellInv ER (sched m) κ (cell c i)) ∗ reached ER (cell c i) 0) : sProp 𝕄) ⊢ known m (cell c i)
    unfold known
    iintro ⟨⟨%κ, Hi⟩, Hr⟩
    iexists κ
    isplitl [Hi] <;> iassumption
  unfold dealt
  iintro ⟨Ho, Hu, Hs, Hr, Ha, Ht⟩
  imod alloc $$ [Ho Hu Hs] with Hi
  · isplitr [Hs]
    · rw [all_eq]
      isplitl [Hu] <;> iassumption
    · iexact Hs
  imodintro
  isplitl [Hi Hr]
  · iapply place
    isplitl [Hi] <;> iassumption
  · isplitl [Ha] <;> iassumption

/-- Sharing out what the devices' set-ups give: the protocol of every semaphore to everybody, each duty to the one that fulfils it. -/
theorem share_out :
    (bigSep Finset.univ fun c : Dev nD => iprop((bigSep Finset.univ fun i : Fin 13 => known m (cell c i)) ∗ positions c ∗ minted c) : sProp 𝕄)
      ⊢ bigSep Finset.univ (ready m) := by
  have spread : (bigSep Finset.univ fun c : Dev nD => bigSep Finset.univ fun i : Fin 13 => known m (cell c i) : sProp 𝕄)
      ⊢ bigSep Finset.univ fun _ : Dev nD => world m := by
    rw [← bigSep_univ_prod (fun ci : Dev nD × Fin 13 => known m (cell ci.1 ci.2))]
    exact BI.bigSep_of_persistent Finset.univ (world m)
  rw [bigSep_sep', bigSep_sep', hand_out]
  unfold ready
  rw [bigSep_sep', bigSep_sep']
  iintro ⟨Hw, Ha, Ht⟩
  isplitl [Hw]
  · iapply spread $$ Hw
  · isplitl [Ha] <;> iassumption

/-- All devices' semaphores are put under the protocol at once, and the duties handed out. -/
theorem all_ready :
    (bigSep Finset.univ fun c : Dev nD => iprop(Pipeline.ownSems0 (Ix := Unit) (Name := ℕ) (U := UU) (Lvl := ℕ) (Val := Elt F) (τ := τ) osem c
        ∗ unscopedSems0 c ∗ dealt m c) : sProp 𝕄)
      ⊢ |={Set.univ}=> bigSep Finset.univ (ready m) :=
  ((bigSep_mono fun c _ => device_alloc m c).trans (bigSep_fupd _ _)).trans (BI.fupd_mono (share_out m))

/-! ## The credit for what the others will pay -/

omit [FloatOps F] in
/-- The launch credit of a device: two units at its barrier, a block's at each receive semaphore. -/
theorem credits (c : Dev nD) :
    (Pipeline.launchCred (fun d => due (dues d)) c : sProp 𝕄)
      ⊢ iprop(cred (tallyAt (cell c 0) () 2) ∗ bigSep Finset.univ fun k : Fin 6 => cred (tallyAt (cell c (iR k)) () cr)) := by
  have one (b : Bool) (sm : SemLoc sig) (n : ℕ) :
      (Pipeline.launchCred (fun d => tallyAt ((par b d).tc, sm) () n) c : sProp 𝕄) ⊢ cred (tallyAt (c.tc, sm) () n) :=
    Pipeline.launchCred_tallyAt sm (par b) (par b) (par_par b) (par_par b) () n c
  have block (k : Fin 6) : (Pipeline.launchCred (fun d => tallyAt ((peer k d).tc, rcvS k) () cr) c : sProp 𝕄) ⊢ cred (tallyAt (c.tc, rcvS k) () cr) :=
    Pipeline.launchCred_tallyAt (rcvS k) (peer k) (peer k) (peer_peer k) (peer_peer k) () cr c
  unfold dues
  simp only [due]
  rw [Pipeline.launchCred_add, Pipeline.launchCred_add, Pipeline.launchCred_add, Pipeline.launchCred_add, Pipeline.launchCred_add,
    Pipeline.launchCred_add, Pipeline.launchCred_add, Pipeline.launchCred_add, over_six]
  iintro ⟨⟨⟨⟨⟨⟨⟨⟨-, H5⟩, H4⟩, H3⟩, H1⟩, H2⟩, H0⟩, Ht⟩, Hf⟩
  ihave Ht := (one true _ _) $$ Ht
  ihave Hf := (one false _ _) $$ Hf
  isplitl [Ht Hf]
  · rw [show (2 : ℕ) = 1 + 1 from rfl, ← tallyAt_add]
    iapply (cred_add _ _).2
    isplitl [Ht]; · iexact Ht
    iexact Hf
  isplitl [H0]; · iapply (block 0) $$ H0
  isplitl [H1]; · iapply (block 1) $$ H1
  isplitl [H2]; · iapply (block 2) $$ H2
  isplitl [H3]; · iapply (block 3) $$ H3
  isplitl [H4]; · iapply (block 4) $$ H4
  iapply (block 5) $$ H5

/-- What the body begins with. -/
theorem ghost_intro (c : Dev nD) :
    iprop(ready m c ∗ levAts L lv ∗ Pipeline.launchCred (fun d => due (dues d)) c) ⊢ ghost m c := by
  have gather : iprop((bigSep Finset.univ fun k : Fin 6 => dutyTok ER (cell c (iS k)) 0 false)
        ∗ (bigSep Finset.univ fun k : Fin 6 => dutyTok ER (cell (peer k c) (iR k)) 0 false)
        ∗ (bigSep Finset.univ fun k : Fin 6 => atPos ER (cell c (iS k)) 0 ∅ 0)
        ∗ (bigSep Finset.univ fun k : Fin 6 => atPos ER (cell c (iR k)) 0 ∅ 0)
        ∗ bigSep Finset.univ fun k : Fin 6 => cred (tallyAt (cell c (iR k)) () cr))
      ⊢ (iprop(fresh c 0 ∗ fresh c 1 ∗ fresh c 2 ∗ fresh c 3 ∗ fresh c 4 ∗ fresh c 5) : sProp 𝕄) := by
    rw [← bigSep_sep', ← bigSep_sep', ← bigSep_sep', ← bigSep_sep', ← over_six (fresh c)]
    exact BI.Entails.refl _
  unfold ready positions ghost
  rw [held_eq, over_cells]
  iintro ⟨⟨#HW, ⟨HaB, HaS, HaR⟩, ⟨Htf, Htt⟩, HtS, HtR⟩, #HL, Hc⟩
  ihave Hc := (credits (F := F) c) $$ Hc
  icases Hc with ⟨HcB, HcR⟩
  isplitr; · iexact HW
  isplitr; · iexact HL
  isplitl [Htf]; · iexact Htf
  isplitl [Htt]; · iexact Htt
  isplitl [HaB]; · iexact HaB
  isplitl [HcB]; · iexact HcB
  iapply gather
  isplitl [HtS]; · iexact HtS
  isplitl [HtR]; · iexact HtR
  isplitl [HaS]; · iexact HaS
  isplitl [HaR] <;> iassumption

end Cert.Exchange

end
-- ==== Proof.Run.lean ====
/- The launch: the program runs to its end on all four devices, whatever the float values are. -/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Pipeline.ValueKit.Geometry

@[expose] public section

noncomputable section

namespace Cert.Exchange

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → ℓ.ty.Contents (Elt F)) (ρ : Dev nD → PrngReg)

/-- The state a run starts in: the memory `m`, every counter at zero. -/
def start : MemSt nD τ sig (Elt F) := ⟨m, fun _ => 0, ρ⟩

/-- What a device holds through the launch, around the body's one run. -/
def dats (_ : Fin 1) (c : Dev nD) : Dat τ (Elt F) Unit ℕ UU ℕ cfg0 c where
  A w := (start m ρ).mem ((cfg0.win w).arr.view.loc (c : Thread nD τ))
  after w _ := match w with
    | ⟨0, _⟩ => opA m c
    | ⟨1, _⟩ => opB m c
    | ⟨2, _⟩ => outAt m c
  Φ t := match t with
    | ⟨0, _⟩ => iprop(ghost m c ∗ scratch c)
    | ⟨_ + 1, _⟩ => iprop(quiet c ∗ scratch c)
  q _ := fullShare
  owed t := match t with
    | ⟨0, _⟩ => due (dues c)
    | ⟨_ + 1, _⟩ => 0

theorem before_A (c : Dev nD) (d) : (dats m ρ 0 c).before (0 : Fin 3) t0_0 d = opA m c := by
  unfold Dat.before; rw [if_pos (fetch0_0 t0_0)]; rfl

theorem before_B (c : Dev nD) (d) : (dats m ρ 0 c).before (1 : Fin 3) t0_0 d = opB m c := by
  unfold Dat.before; rw [if_pos (fetch0_1 t0_0)]; rfl

set_option maxRecDepth 8000 in
/-- The body's obligation to the launch. -/
theorem body_obligation (c : Dev nD) : BodyObligation (dats (F := F) m ρ 0 c) (defs₀ (F := F)) 𝒱₀ () Set.univ := fun t => by
  rw [fin_N0 t]
  rw [bigSep_W0, bigSep_W0]
  show iprop((ghost m c ∗ scratch c) ∗ (dats m ρ 0 c).owesAt () t0_0.castSucc
      ∗ (∃ d, owns (c.tc : Thread nD τ) (Memref.whole cc0_stg0_0) fullShare ((dats m ρ 0 c).before (0 : Fin 3) t0_0 d))
      ∗ (∃ d, owns (c.tc : Thread nD τ) (Memref.whole cc0_stg1_0) fullShare ((dats m ρ 0 c).before (1 : Fin 3) t0_0 d))
      ∗ (∃ d, owns (c.tc : Thread nD τ) (Memref.whole cc0_stg2_0) fullShare ((dats m ρ 0 c).before (2 : Fin 3) t0_0 d)))
    ⊢ wp frame (wpE (defs₀ (F := F)) 𝒱₀ (c.tc : Thread nD τ) none) Set.univ (bodyAt0 t0_0)
      (fun _ => iprop((quiet c ∗ scratch c) ∗ (dats m ρ 0 c).owesAt () t0_0.succ
        ∗ owns (c.tc : Thread nD τ) (Memref.whole cc0_stg0_0) fullShare (opA m c)
        ∗ owns (c.tc : Thread nD τ) (Memref.whole cc0_stg1_0) fullShare (opB m c)
        ∗ owns (c.tc : Thread nD τ) (Memref.whole cc0_stg2_0) fullShare (outAt m c)))
  iintro ⟨⟨Hg, Hs⟩, Ho, ⟨%dA, HA⟩, ⟨%dB, HB⟩, ⟨%dO, HO⟩⟩
  rw [before_A, before_B]
  unfold Dat.owesAt Pipeline.owesWithin
  icases Ho with ⟨%W, %hW, Ho⟩
  rw [show (dats m ρ 0 c).owed t0_0.castSucc = due (dues c) from rfl]
  iapply (sound_body m c fun _ => _)
  isplitl
  · unfold bodyPre debt
    isplitl [Hg]; · iexact Hg
    isplitl [Hs]; · iexact Hs
    isplitl [Ho]; · iexists W; iexact Ho
    isplitl [HA]; · iexact HA
    isplitl [HB]; · iexact HB
    iexists _; iexact HO
  · unfold bodyPost debt
    iintro ⟨Hq, Hs, ⟨%W', Ho⟩, HA, HB, HO⟩
    isplitl [Hq Hs]
    · isplitl [Hq] <;> iassumption
    isplitl [Ho]
    · rw [show (dats m ρ 0 c).owed t0_0.succ = 0 from rfl]
      iexists W'
      isplitr; · ipureintro; exact fun _ _ => Or.inl trivial
      iexact Ho
    isplitl [HA]; · iexact HA
    isplitl [HB] <;> iassumption

/-! ## The launch -/

theorem ownSemFacts : Pipeline.OwnSemFacts cfg0.spec osem := by decide

theorem share_eq (c : Dev nD) (w : Fin cfg0.W) : (dats m ρ 0 c).share w = fullShare := by unfold Dat.share; split <;> rfl

/-- The ghost element the launch is funded with. -/
def u₀ : UU :=
  (initOf (Pipeline.cells cfgs cellOf_inj) (Pipeline.launchToks cfgs cellOf_inj), initOf allCells allDuties)

omit [FloatOps F] in
/-- The scratch buffers as the launch counts them. -/
theorem scratch_eq (c : Dev nD) :
    (Pipeline.scopedRest (Ix := Unit) (Name := ℕ) (U := UU) (Lvl := ℕ) (Val := Elt F) (τ := τ) cfg0.spec c : sProp 𝕄) = scratch c := by
  rw [scopedRest0_eq]
  unfold scratch some'
  simp only [owns_whole]

/-- What is left of the launch's grants once the set-up is over is what the body begins with. -/
theorem ghost_from_launch (c : Dev nD) :
    iprop(Pipeline.unscopedRestP Pipeline.Prefetch.none cfg0.spec c (fun b => m ((c : Thread nD τ).loc b)) ∗ levAts L lv
        ∗ Pipeline.launchCred (fun d => due (dues d)) c ∗ prngReg c (ρ c) ∗ ready m c)
      ⊢ |={Set.univ}=> iprop(ghost m c ∗ emp) := by
  iintro ⟨-, HL, Hc, -, HR⟩
  imodintro
  isplitl
  · iapply (ghost_intro m c)
    isplitl [HR]; · iexact HR
    isplitl [HL] <;> iassumption
  · iempintro

theorem enter (c : Dev nD) :
    iprop(ghost m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(ghost m c ∗ scratch c) from rfl, scratch_eq]
  iintro ⟨Hg, -, Hs⟩
  isplitl [Hg] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(quiet c ∗ scratch c) from rfl, scratch_eq, barrier_eq, own_eq, over_six, over_six]
  unfold quiet
  iintro ⟨⟨Hb, ⟨S0, R0⟩, ⟨S1, R1⟩, ⟨S2, R2⟩, ⟨S3, R3⟩, ⟨S4, R4⟩, S5, R5⟩, Hs⟩
  isplitl [Hb]; · iexact Hb
  isplitr [Hs]
  · isplitl [S0 S1 S2 S3 S4 S5]
    · isplitl [S0]; · iexact S0
      isplitl [S1]; · iexact S1
      isplitl [S2]; · iexact S2
      isplitl [S3]; · iexact S3
      isplitl [S4] <;> iassumption
    · isplitl [R0]; · iexact R0
      isplitl [R1]; · iexact R1
      isplitl [R2]; · iexact R2
      isplitl [R3]; · iexact R3
      isplitl [R4] <;> iassumption
  · iexact Hs

/-- The staging semaphores may be waited for at any time: they are the lowest. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait_due c _ (dues c) fun p hp => ?_
      rw [show lvl (part (SemLoc.dma ((cfg0.win w).sem s))) = 0 from by fin_cases w <;> fin_cases s <;> decide]
      exact later c 0 (by decide) p hp
    · show _ ⊢ MayWait _ _ _ 0
      rw [MayWait_zero]; iintro -; iempintro

/-! ## The run -/

/-- What a window's array holds at the end. -/
def finalA (c : Dev nD) (w : Fin cfg0.W) : Buf (Elt F) ((cfg0.win w).arr.view.loc (c : Thread nD τ)) := (dats m ρ 0 c).arrAt w cfg0.N

set_option maxRecDepth 8000 in
/-- From any memory with every counter at zero, every weakly fair run of the program on the four devices ends,
    with each window's array at the contents computed for it and every counter at zero. -/
theorem run_all : θ_run defs (onTc (τ := τ) (main (F := F))) (start m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => due (dues d)) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := all_ready m)
    (hA := fun _ _ => rfl) (hpf := fun _ k => k.elim0)
    (X := ghost m) (Y := fun c => unscopedSems0 c) (Z := fun _ => iprop(emp))
    (hX := ghost_from_launch m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends at what the body leaves. -/
theorem final_out (c : Dev nD) : finalA m ρ c (2 : Fin 3) = outAt m c :=
  (dats m ρ 0 c).arrAt_eq_of_after_last (2 : Fin 3) t0_0 (by decide +kernel) (outAt m c) fun j => rfl

/-- From any memory with every counter at zero, every weakly fair run of the program on the four devices ends,
    each device's result holding `outAt`, its arguments unchanged and every counter at zero. -/
theorem run_main : θ_run defs (onTc (τ := τ) (main (F := F))) (start m ρ) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c =>
    ⟨(h.1 c (2 : Fin 3)).trans (final_out m ρ c),
      (h.1 c (0 : Fin 3)).trans ((dats m ρ 0 c).arrAt_in (0 : Fin 3) rfl _),
      (h.1 c (1 : Fin 3)).trans ((dats m ρ 0 c).arrAt_in (1 : Fin 3) rfl _)⟩, h.2⟩) (run_all m ρ)

end Cert.Exchange

end
-- ==== Proof.Product.lean ====
/- What the exchange computes over the reals: each device's result is its block of rows of the product of the
   whole operands, the contraction cut in four where the devices cut it. -/
module

public import proofs.«01_k».proof.Proof.Tiles
public import Idealize.ShloMosaic.Lib.StackMember
public import Idealize.ShloMosaic.Lib.Pipeline.ValueKit.Acc
public import Idealize.ShloMosaic.Lib.Layout

@[expose] public section

noncomputable section

namespace Cert.Exchange

open Idealize.ShloMosaic Idealize.ShloMosaic.TcCoe Cert.KernelIdeal Cert.KernelIdeal.Gen
open Idealize.ShloMosaic.ValueIdx Idealize.ShloMosaic.StackMember

/-- The whole left operand, the whole right operand, the whole product. -/
abbrev LeftIdx := (⟨2, ![1536, 3072]⟩ : Shape).Idx
abbrev RightIdx := (⟨2, ![3072, 1536]⟩ : Shape).Idx

section Blocks
variable (A : LeftIdx → EReal) (B : RightIdx → EReal)

/-- Row `i` of row block `r`. -/
def rowAt (r : Dev nD) (i : Fin 384) : Fin 1536 := ⟨r.val * 384 + i.val, by have h : r.val < 4 := r.isLt; have := i.isLt; omega⟩
/-- Place `k` of device `d`'s share of the contraction. -/
def midAt (d : Dev nD) (k : Fin 768) : Fin 3072 := ⟨d.val * 768 + k.val, by have h : d.val < 4 := d.isLt; have := k.isLt; omega⟩
/-- Column `j` of a half of the columns. -/
def colAt : Bool → Fin 768 → Fin 1536
  | false, j => ⟨j.val, by have := j.isLt; omega⟩
  | true, j => ⟨768 + j.val, by have := j.isLt; omega⟩

/-- Device `d`'s share of an entry of the product. -/
def share (r : Dev nD) (i : Fin 384) (j : Fin 1536) (d : Dev nD) : EReal :=
  ∑ k : Fin 768, A (ix2 (rowAt r i) (midAt d k)) * B (ix2 (midAt d k) j)

/-- The four shares make the entry. -/
theorem shares (r : Dev nD) (i : Fin 384) (j : Fin 1536) :
    ∑ d : Dev nD, share A B r i j d = ∑ k : Fin 3072, A (ix2 (rowAt r i) k) * B (ix2 k j) :=
  Fin.sum_mul_add_fin 4 768 fun k : Fin 3072 => A (ix2 (rowAt r i) k) * B (ix2 k j)

end Blocks

/-- A device and its partners are all four devices: the left half's order of addition. -/
theorem sum_left (f : Dev nD → EReal) (c : Dev nD) :
    f c + f (par true c) + (f (par false c) + f (par true (par false c))) = ∑ d, f d := by
  have e : ∑ d, f d = f 0 + f 1 + f 2 + f 3 := Fin.sum_univ_four f
  rw [e]
  fin_cases c
  · show f 0 + f 3 + (f 1 + f 2) = _; ac_rfl
  · show f 1 + f 2 + (f 0 + f 3) = _; ac_rfl
  · show f 2 + f 1 + (f 3 + f 0) = _; ac_rfl
  · show f 3 + f 0 + (f 2 + f 1) = _; ac_rfl

/-- The right half's order of addition. -/
theorem sum_right (f : Dev nD → EReal) (c : Dev nD) :
    f c + f (par false c) + (f (par true c) + f (par false (par true c))) = ∑ d, f d := by
  rw [← sum_left f c, par_comm]
  ac_rfl

theorem off_val (r : Dev nD) : k0_off7 r 0 = r.val * 384 ∧ k0_off7 r 1 = 0 := by revert r; decide +kernel

variable (m : (ℓ : Loc nD τ sig) → ℓ.ty.Contents (Elt Ideal))

/-- Each device's arguments are its blocks of the whole operands. -/
structure Holds (A : LeftIdx → EReal) (B : RightIdx → EReal) : Prop where
  left : ∀ c : Dev nD, m ((c.tc : Thread nD τ).loc main_arg0) = Layout.block ⟨2, ![1536, 768]⟩ ⟨2, ![1536, 3072]⟩ 1 4 c A
  right : ∀ c : Dev nD, m ((c.tc : Thread nD τ).loc main_arg1) = Layout.block ⟨2, ![768, 1536]⟩ ⟨2, ![3072, 1536]⟩ 0 4 c B

variable {A : LeftIdx → EReal} {B : RightIdx → EReal} (H : Holds m A B)
include H

omit H in
/-- The kernel finds the whole of its arguments. -/
theorem opA_eq (d : Dev nD) : opA m d = m ((d.tc : Thread nD τ).loc main_arg0) := by
  funext y
  refine congrArg (m ((d.tc : Thread nD τ).loc main_arg0)) (funext fun a => Fin.ext ?_)
  match a with
  | ⟨0, _⟩ => show 0 * 1536 + 1 * (y 0).val = (y 0).val; omega
  | ⟨1, _⟩ => show 0 * 768 + 1 * (y 1).val = (y 1).val; omega

omit H in
theorem opB_eq (d : Dev nD) : opB m d = m ((d.tc : Thread nD τ).loc main_arg1) := by
  funext y
  refine congrArg (m ((d.tc : Thread nD τ).loc main_arg1)) (funext fun a => Fin.ext ?_)
  match a with
  | ⟨0, _⟩ => show 0 * 768 + 1 * (y 0).val = (y 0).val; omega
  | ⟨1, _⟩ => show 0 * 1536 + 1 * (y 1).val = (y 1).val; omega

/-- Row block `r` of device `d`'s left operand, at an entry. -/
theorem rows_at (d r : Dev nD) (i : Fin 384) (k : Fin 768) : rows (opA m d) r (ix2 i k) = A (ix2 (rowAt r i) (midAt d k)) := by
  rw [opA_eq, H.left d]
  refine congrArg A (funext fun a => Fin.ext ?_)
  match a with
  | ⟨0, _⟩ => show k0_off7 r 0 + 1 * i.val = r.val * 384 + i.val; rw [(off_val r).1]; omega
  | ⟨1, _⟩ => show d.val * 768 + (k0_off7 r 1 + 1 * k.val) = d.val * 768 + k.val; rw [(off_val r).2]; omega

/-- A half of the columns of device `d`'s right operand, at an entry. -/
theorem cols_at (d : Dev nD) (h : Bool) (k j : Fin 768) : cols (opB m d) h (ix2 k j) = B (ix2 (midAt d k) (colAt h j)) := by
  rw [opB_eq, H.right d]
  cases h
  · refine congrArg B (funext fun a => Fin.ext ?_)
    match a with
    | ⟨0, _⟩ => show d.val * 768 + (0 + 1 * k.val) = d.val * 768 + k.val; omega
    | ⟨1, _⟩ => show 0 + 1 * j.val = j.val; omega
  · refine congrArg B (funext fun a => Fin.ext ?_)
    match a with
    | ⟨0, _⟩ => show d.val * 768 + (0 + 1 * k.val) = d.val * 768 + k.val; omega
    | ⟨1, _⟩ => show 768 + 1 * j.val = 768 + j.val; omega

/-- A device's product for a row block and a column half is its share of those entries. -/
theorem piece_at (d r : Dev nD) (h : Bool) (i : Fin 384) (j : Fin 768) : piece m d r h (ix2 i j) = share A B r i (colAt h j) d := by
  unfold piece k0_pay7
  simp only [shapeCast_self]
  rw [matmul_zero_eq_dotGeneral]
  refine (dotGeneral_plain_apply (φ₁ := .f32) (φ₂ := .f32) (m := 384) (k := 768) (n := 768) none (rows (opA m d) r) (cols (opB m d) h) i j).trans ?_
  exact Finset.sum_congr rfl fun k _ => congrArg₂ (· * ·) (rows_at m H d r i k) (cols_at m H d h k j)

/-- A half of a device's result is the sum of all four devices' shares. -/
theorem result_at (c : Dev nD) (h : Bool) (i : Fin 384) (j : Fin 768) :
    result m c h (ix2 i j) = ∑ d : Dev nD, share A B c i (colAt h j) d := by
  cases h
  · show piece m c c false (ix2 i j) + piece m (par true c) (par true (par true c)) false (ix2 i j)
      + (piece m (par false c) (par false (par false c)) false (ix2 i j)
        + piece m (par true (par false c)) (par false (par true (par true (par false c)))) false (ix2 i j)) = _
    rw [par_par, par_par, par_par, par_par]
    simp only [piece_at m H]
    exact sum_left (share A B c i (colAt false j)) c
  · show piece m c c true (ix2 i j) + piece m (par false c) (par false (par false c)) true (ix2 i j)
      + (piece m (par true c) (par true (par true c)) true (ix2 i j)
        + piece m (par false (par true c)) (par false (par true (par false (par true c)))) true (ix2 i j)) = _
    rw [← par_comm (par false (par true c)), par_par, par_par, par_par, par_par]
    simp only [piece_at m H]
    exact sum_right (share A B c i (colAt true j)) c

/-- Device `c`'s result is block `c` of the rows of the product of the whole operands. -/
theorem out_eq (D : DotDims ⟨2, ![1536, 3072]⟩ ⟨2, ![3072, 1536]⟩ ⟨2, ![1536, 1536]⟩) (hD : D = DotDims.plain 1536 3072 1536) (c : Dev nD) :
    outAt m c = Layout.block ⟨2, ![384, 1536]⟩ ⟨2, ![1536, 1536]⟩ 0 4 c
      (Host.dotGeneral (φ₁ := .f32) (φ₂ := .f32) D none A B : FVec Ideal ⟨2, ![1536, 1536]⟩ .f32) := by
  subst hD
  funext x
  obtain ⟨i, j, rfl⟩ : ∃ (i : Fin 384) (j : Fin 1536), x = ix2 i j := ⟨x 0, x 1, eq_ix2 x⟩
  have lhs : outAt m c (ix2 i j) = ∑ d : Dev nD, share A B c i j d := by
    unfold outAt beside
    split
    · rename_i h
      refine (result_at m H c false i ⟨j.val, h⟩).trans ?_
      rfl
    · rename_i h
      have hj : ¬ j.val < 768 := h
      refine (result_at m H c true i ⟨j.val - 768, by have := j.isLt; omega⟩).trans ?_
      rw [show colAt true ⟨j.val - 768, by have := j.isLt; omega⟩ = j from Fin.ext (by show 768 + (j.val - 768) = j.val; omega)]
  rw [lhs, shares]
  refine (dotGeneral_plain_apply (φ₁ := .f32) (φ₂ := .f32) (m := 1536) (k := 3072) (n := 1536) none A B (rowAt c i) j).symm.trans ?_
  refine congrArg (Host.dotGeneral (F := Ideal) (φ₁ := .f32) (φ₂ := .f32) (DotDims.plain 1536 3072 1536) none A B) (funext fun a => Fin.ext ?_)
  match a with
  | ⟨0, _⟩ => rfl
  | ⟨1, _⟩ => rfl

end Cert.Exchange

end
-- ==== Proof.Claims.lean ====
/- The claims, each from the run of the program it is about. -/
module

public import proofs.«01_k».proof.Defs
public import proofs.«01_k».proof.Proof.Same
public import proofs.«01_k».proof.Proof.Gen.ReferenceIdeal.Run
public import proofs.«01_k».proof.Proof.Run
public import proofs.«01_k».proof.Proof.Product

@[expose] public section

noncomputable section

namespace Cert.Exchange

open Idealize.ShloMosaic Idealize.SL.Sem

/-- At any float values the exchange ends with its arguments unchanged and every counter at zero. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main m ρ)

/-- The frame of the exchange at the ideal values. -/
theorem frame_ideal : Cert.quiescent_KernelIdeal := fun m ρ _ => kept m ρ

/-- The frame of the exchange at float words: the two programs are one. -/
theorem frame_kernel : Cert.quiescent_Kernel := fun m ρ _ => by
  rw [same_defs (F := Bits)]
  exact kept (F := Bits) m ρ

/-- The reference ends with its arguments unchanged, and it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c`'s result is block `c` of the rows of the reference's product. -/
theorem value : Cert.algebraic_KernelIdeal_ReferenceIdeal := fun m ρ m' ρ' _ hm =>
  ⟨_, (θ_run Cert.KernelIdeal.defs _ _).mono
      (fun _ h c => ⟨(h.1 c).1.trans (out_eq m ⟨fun d => (hm d).1, fun d => (hm d).2⟩
        Cert.ReferenceIdeal.dot_S1536x3072_S3072x1536_S1536x1536_1_0_0_1_n_n rfl c), (h.1 c).2⟩) (run_main (F := Ideal) m ρ),
    (θ_run Cert.ReferenceIdeal.defs _ _).mono (fun _ h => h 0) (Cert.ReferenceIdeal.Value.run (F := Ideal) m' ρ')⟩

end Cert.Exchange

end
-- ==== Proof.lean ====
/- The five claims put together: the frames of the kernel, of its ideal reading and of the ideal reference, the
   passage from the kernel to its ideal reading, and the equality of kernel and reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All the claims of this directory hold. -/
theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.value⟩

end Cert.Proof

end
